-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x128x8192 : Shape := ⟨3, ![32, 128, 8192]⟩
abbrev S3 : Shape := ⟨1, ![3]⟩
abbrev S_ : Shape := ⟨0, ![]⟩
abbrev S1 : Shape := ⟨1, ![1]⟩
abbrev S2 : Shape := ⟨1, ![2]⟩
abbrev S1x1x1 : Shape := ⟨3, ![1, 1, 1]⟩
abbrev S32x8192x3 : Shape := ⟨3, ![32, 8192, 3]⟩
abbrev S1x1x3 : Shape := ⟨3, ![1, 1, 3]⟩
abbrev S32x8192 : Shape := ⟨2, ![32, 8192]⟩
abbrev S32x1 : Shape := ⟨2, ![32, 1]⟩
abbrev S32 : Shape := ⟨1, ![32]⟩
abbrev S8192 : Shape := ⟨1, ![8192]⟩
abbrev S1x8192 : Shape := ⟨2, ![1, 8192]⟩
abbrev S4x8192 : Shape := ⟨2, ![4, 8192]⟩
abbrev S2x8192 : Shape := ⟨2, ![2, 8192]⟩
abbrev S1x4x8192 : Shape := ⟨3, ![1, 4, 8192]⟩
abbrev S1x2x8192 : Shape := ⟨3, ![1, 2, 8192]⟩
abbrev S16 : Shape := ⟨1, ![16]⟩
abbrev S1x16 : Shape := ⟨2, ![1, 16]⟩

abbrev nBuf : Table → Nat
  | .hbm => 327
  | .local .scVector .vmem => 5
  | _ => 0

abbrev hbmTy0_0 (i : Nat) : BufTy := match i % 128 with
  | 0 => ⟨S32x128x8192, .f32⟩
  | 1 => ⟨S3, .f32⟩
  | 2 => ⟨S_, .i32⟩
  | 3 => ⟨S_, .i32⟩
  | 4 => ⟨S_, .i32⟩
  | 5 => ⟨S_, .i32⟩
  | 6 => ⟨S1, .i32⟩
  | 7 => ⟨S_, .i32⟩
  | 8 => ⟨S_, .i32⟩
  | 9 => ⟨S_, .i32⟩
  | 10 => ⟨S1, .i32⟩
  | 11 => ⟨S2, .i32⟩
  | 12 => ⟨S3, .f32⟩
  | 13 => ⟨S_, .f32⟩
  | 14 => ⟨S_, .f32⟩
  | 15 => ⟨S_, .f32⟩
  | 16 => ⟨S1x1x1, .f32⟩
  | 17 => ⟨S1x1x1, .f32⟩
  | 18 => ⟨S1, .i32⟩
  | 19 => ⟨S_, .i32⟩
  | 20 => ⟨S1, .i32⟩
  | 21 => ⟨S_, .i32⟩
  | 22 => ⟨S32x8192x3, .i64⟩
  | 23 => ⟨S32x8192x3, .i64⟩
  | 24 => ⟨S32x8192x3, .i64⟩
  | 25 => ⟨S_, .i64⟩
  | 26 => ⟨S32x8192x3, .i64⟩
  | 27 => ⟨S32x8192x3, .i64⟩
  | 28 => ⟨S_, .i64⟩
  | 29 => ⟨S32x8192x3, .i64⟩
  | 30 => ⟨S32x8192x3, .i64⟩
  | 31 => ⟨S_, .i64⟩
  | 32 => ⟨S32x8192x3, .i64⟩
  | 33 => ⟨S32x8192x3, .i64⟩
  | 34 => ⟨S32x8192x3, .i64⟩
  | 35 => ⟨S32x8192x3, .i64⟩
  | 36 => ⟨S_, .i64⟩
  | 37 => ⟨S32x8192x3, .i64⟩
  | 38 => ⟨S32x8192x3, .i64⟩
  | 39 => ⟨S32x8192x3, .i32⟩
  | 40 => ⟨S32x8192x3, .i32⟩
  | 41 => ⟨S_, .i32⟩
  | 42 => ⟨S_, .i32⟩
  | 43 => ⟨S_, .i32⟩
  | 44 => ⟨S32x8192x3, .i32⟩
  | 45 => ⟨S32x8192x3, .i32⟩
  | 46 => ⟨S32x8192x3, .i32⟩
  | 47 => ⟨S32x8192x3, .i32⟩
  | 48 => ⟨S32x8192x3, .i32⟩
  | 49 => ⟨S_, .i32⟩
  | 50 => ⟨S32x8192x3, .i32⟩
  | 51 => ⟨S32x8192x3, .i32⟩
  | 52 => ⟨S_, .i32⟩
  | 53 => ⟨S32x8192x3, .i32⟩
  | 54 => ⟨S32x8192x3, .i32⟩
  | 55 => ⟨S32x8192x3, .i32⟩
  | 56 => ⟨S32x8192x3, .i32⟩
  | 57 => ⟨S32x8192x3, .i32⟩
  | 58 => ⟨S_, .i32⟩
  | 59 => ⟨S32x8192x3, .i32⟩
  | 60 => ⟨S32x8192x3, .i32⟩
  | 61 => ⟨S_, .i32⟩
  | 62 => ⟨S32x8192x3, .i32⟩
  | 63 => ⟨S32x8192x3, .i32⟩
  | 64 => ⟨S32x8192x3, .i32⟩
  | 65 => ⟨S32x8192x3, .i32⟩
  | 66 => ⟨S32x8192x3, .i32⟩
  | 67 => ⟨S_, .i32⟩
  | 68 => ⟨S32x8192x3, .i32⟩
  | 69 => ⟨S32x8192x3, .i32⟩
  | 70 => ⟨S_, .i32⟩
  | 71 => ⟨S32x8192x3, .i32⟩
  | 72 => ⟨S32x8192x3, .i32⟩
  | 73 => ⟨S32x8192x3, .i32⟩
  | 74 => ⟨S32x8192x3, .i32⟩
  | 75 => ⟨S32x8192x3, .i32⟩
  | 76 => ⟨S_, .i32⟩
  | 77 => ⟨S32x8192x3, .i32⟩
  | 78 => ⟨S32x8192x3, .i32⟩
  | 79 => ⟨S_, .i32⟩
  | 80 => ⟨S32x8192x3, .i32⟩
  | 81 => ⟨S32x8192x3, .i32⟩
  | 82 => ⟨S32x8192x3, .i32⟩
  | 83 => ⟨S32x8192x3, .i32⟩
  | 84 => ⟨S32x8192x3, .i32⟩
  | 85 => ⟨S32x8192x3, .i32⟩
  | 86 => ⟨S32x8192x3, .i32⟩
  | 87 => ⟨S32x8192x3, .i32⟩
  | 88 => ⟨S_, .i32⟩
  | 89 => ⟨S32x8192x3, .i32⟩
  | 90 => ⟨S32x8192x3, .i32⟩
  | 91 => ⟨S32x8192x3, .i32⟩
  | 92 => ⟨S_, .i32⟩
  | 93 => ⟨S32x8192x3, .i32⟩
  | 94 => ⟨S32x8192x3, .i32⟩
  | 95 => ⟨S_, .i32⟩
  | 96 => ⟨S32x8192x3, .i32⟩
  | 97 => ⟨S32x8192x3, .i32⟩
  | 98 => ⟨S32x8192x3, .i32⟩
  | 99 => ⟨S32x8192x3, .i32⟩
  | 100 => ⟨S32x8192x3, .i32⟩
  | 101 => ⟨S_, .i32⟩
  | 102 => ⟨S32x8192x3, .i32⟩
  | 103 => ⟨S32x8192x3, .i32⟩
  | 104 => ⟨S_, .i32⟩
  | 105 => ⟨S32x8192x3, .i32⟩
  | 106 => ⟨S32x8192x3, .i32⟩
  | 107 => ⟨S32x8192x3, .i32⟩
  | 108 => ⟨S32x8192x3, .i32⟩
  | 109 => ⟨S32x8192x3, .i32⟩
  | 110 => ⟨S_, .i32⟩
  | 111 => ⟨S32x8192x3, .i32⟩
  | 112 => ⟨S32x8192x3, .i32⟩
  | 113 => ⟨S_, .i32⟩
  | 114 => ⟨S32x8192x3, .i32⟩
  | 115 => ⟨S32x8192x3, .i32⟩
  | 116 => ⟨S32x8192x3, .i32⟩
  | 117 => ⟨S32x8192x3, .i32⟩
  | 118 => ⟨S32x8192x3, .i32⟩
  | 119 => ⟨S_, .i32⟩
  | 120 => ⟨S32x8192x3, .i32⟩
  | 121 => ⟨S32x8192x3, .i32⟩
  | 122 => ⟨S_, .i32⟩
  | 123 => ⟨S32x8192x3, .i32⟩
  | 124 => ⟨S32x8192x3, .i32⟩
  | 125 => ⟨S32x8192x3, .i32⟩
  | 126 => ⟨S32x8192x3, .i32⟩
  | 127 => ⟨S32x8192x3, .i32⟩
  | _ => ⟨S32x128x8192, .f32⟩

abbrev hbmTy0_1 (i : Nat) : BufTy := match i % 128 with
  | 0 => ⟨S32x8192x3, .i32⟩
  | 1 => ⟨S32x8192x3, .i32⟩
  | 2 => ⟨S32x8192x3, .i32⟩
  | 3 => ⟨S_, .i32⟩
  | 4 => ⟨S32x8192x3, .i32⟩
  | 5 => ⟨S32x8192x3, .i32⟩
  | 6 => ⟨S32x8192x3, .i32⟩
  | 7 => ⟨S_, .i32⟩
  | 8 => ⟨S32x8192x3, .i32⟩
  | 9 => ⟨S32x8192x3, .i32⟩
  | 10 => ⟨S_, .i32⟩
  | 11 => ⟨S32x8192x3, .i32⟩
  | 12 => ⟨S32x8192x3, .i32⟩
  | 13 => ⟨S32x8192x3, .i32⟩
  | 14 => ⟨S32x8192x3, .i32⟩
  | 15 => ⟨S32x8192x3, .i32⟩
  | 16 => ⟨S_, .i32⟩
  | 17 => ⟨S32x8192x3, .i32⟩
  | 18 => ⟨S32x8192x3, .i32⟩
  | 19 => ⟨S_, .i32⟩
  | 20 => ⟨S32x8192x3, .i32⟩
  | 21 => ⟨S32x8192x3, .i32⟩
  | 22 => ⟨S32x8192x3, .i32⟩
  | 23 => ⟨S32x8192x3, .i32⟩
  | 24 => ⟨S32x8192x3, .i32⟩
  | 25 => ⟨S_, .i32⟩
  | 26 => ⟨S32x8192x3, .i32⟩
  | 27 => ⟨S32x8192x3, .i32⟩
  | 28 => ⟨S_, .i32⟩
  | 29 => ⟨S32x8192x3, .i32⟩
  | 30 => ⟨S32x8192x3, .i32⟩
  | 31 => ⟨S32x8192x3, .i32⟩
  | 32 => ⟨S32x8192x3, .i32⟩
  | 33 => ⟨S32x8192x3, .i32⟩
  | 34 => ⟨S_, .i32⟩
  | 35 => ⟨S32x8192x3, .i32⟩
  | 36 => ⟨S32x8192x3, .i32⟩
  | 37 => ⟨S_, .i32⟩
  | 38 => ⟨S32x8192x3, .i32⟩
  | 39 => ⟨S32x8192x3, .i32⟩
  | 40 => ⟨S32x8192x3, .i32⟩
  | 41 => ⟨S32x8192x3, .i32⟩
  | 42 => ⟨S32x8192x3, .i32⟩
  | 43 => ⟨S32x8192x3, .i32⟩
  | 44 => ⟨S32x8192x3, .i32⟩
  | 45 => ⟨S32x8192x3, .i32⟩
  | 46 => ⟨S_, .i32⟩
  | 47 => ⟨S32x8192x3, .i32⟩
  | 48 => ⟨S32x8192x3, .i32⟩
  | 49 => ⟨S32x8192x3, .i32⟩
  | 50 => ⟨S_, .i32⟩
  | 51 => ⟨S32x8192x3, .i32⟩
  | 52 => ⟨S32x8192x3, .i32⟩
  | 53 => ⟨S_, .i32⟩
  | 54 => ⟨S32x8192x3, .i32⟩
  | 55 => ⟨S32x8192x3, .i32⟩
  | 56 => ⟨S32x8192x3, .i32⟩
  | 57 => ⟨S32x8192x3, .i32⟩
  | 58 => ⟨S32x8192x3, .i32⟩
  | 59 => ⟨S_, .i32⟩
  | 60 => ⟨S32x8192x3, .i32⟩
  | 61 => ⟨S32x8192x3, .i32⟩
  | 62 => ⟨S_, .i32⟩
  | 63 => ⟨S32x8192x3, .i32⟩
  | 64 => ⟨S32x8192x3, .i32⟩
  | 65 => ⟨S32x8192x3, .i32⟩
  | 66 => ⟨S32x8192x3, .i32⟩
  | 67 => ⟨S32x8192x3, .i32⟩
  | 68 => ⟨S_, .i32⟩
  | 69 => ⟨S32x8192x3, .i32⟩
  | 70 => ⟨S32x8192x3, .i32⟩
  | 71 => ⟨S_, .i32⟩
  | 72 => ⟨S32x8192x3, .i32⟩
  | 73 => ⟨S32x8192x3, .i32⟩
  | 74 => ⟨S32x8192x3, .i32⟩
  | 75 => ⟨S32x8192x3, .i32⟩
  | 76 => ⟨S32x8192x3, .i32⟩
  | 77 => ⟨S_, .i32⟩
  | 78 => ⟨S32x8192x3, .i32⟩
  | 79 => ⟨S32x8192x3, .i32⟩
  | 80 => ⟨S_, .i32⟩
  | 81 => ⟨S32x8192x3, .i32⟩
  | 82 => ⟨S32x8192x3, .i32⟩
  | 83 => ⟨S32x8192x3, .i32⟩
  | 84 => ⟨S32x8192x3, .i32⟩
  | 85 => ⟨S32x8192x3, .i32⟩
  | 86 => ⟨S32x8192x3, .i32⟩
  | 87 => ⟨S32x8192x3, .i32⟩
  | 88 => ⟨S32x8192x3, .i32⟩
  | 89 => ⟨S_, .i32⟩
  | 90 => ⟨S32x8192x3, .i32⟩
  | 91 => ⟨S32x8192x3, .i32⟩
  | 92 => ⟨S32x8192x3, .i32⟩
  | 93 => ⟨S_, .i32⟩
  | 94 => ⟨S32x8192x3, .i32⟩
  | 95 => ⟨S32x8192x3, .i32⟩
  | 96 => ⟨S_, .i32⟩
  | 97 => ⟨S32x8192x3, .i32⟩
  | 98 => ⟨S32x8192x3, .i32⟩
  | 99 => ⟨S32x8192x3, .i32⟩
  | 100 => ⟨S32x8192x3, .i32⟩
  | 101 => ⟨S32x8192x3, .i32⟩
  | 102 => ⟨S_, .i32⟩
  | 103 => ⟨S32x8192x3, .i32⟩
  | 104 => ⟨S32x8192x3, .i32⟩
  | 105 => ⟨S_, .i32⟩
  | 106 => ⟨S32x8192x3, .i32⟩
  | 107 => ⟨S32x8192x3, .i32⟩
  | 108 => ⟨S32x8192x3, .i32⟩
  | 109 => ⟨S32x8192x3, .i32⟩
  | 110 => ⟨S32x8192x3, .i32⟩
  | 111 => ⟨S_, .i32⟩
  | 112 => ⟨S32x8192x3, .i32⟩
  | 113 => ⟨S32x8192x3, .i32⟩
  | 114 => ⟨S_, .i32⟩
  | 115 => ⟨S32x8192x3, .i32⟩
  | 116 => ⟨S32x8192x3, .i32⟩
  | 117 => ⟨S32x8192x3, .i32⟩
  | 118 => ⟨S32x8192x3, .i32⟩
  | 119 => ⟨S32x8192x3, .i32⟩
  | 120 => ⟨S_, .i32⟩
  | 121 => ⟨S32x8192x3, .i32⟩
  | 122 => ⟨S32x8192x3, .i32⟩
  | 123 => ⟨S_, .i32⟩
  | 124 => ⟨S32x8192x3, .i32⟩
  | 125 => ⟨S32x8192x3, .i32⟩
  | 126 => ⟨S32x8192x3, .i32⟩
  | 127 => ⟨S32x8192x3, .i32⟩
  | _ => ⟨S32x128x8192, .f32⟩

abbrev hbmTy0_2 (i : Nat) : BufTy := match i % 128 with
  | 0 => ⟨S32x8192x3, .i32⟩
  | 1 => ⟨S32x8192x3, .i32⟩
  | 2 => ⟨S32x8192x3, .i32⟩
  | 3 => ⟨S32x8192x3, .i32⟩
  | 4 => ⟨S_, .i32⟩
  | 5 => ⟨S32x8192x3, .i32⟩
  | 6 => ⟨S32x8192x3, .i32⟩
  | 7 => ⟨S32x8192x3, .i32⟩
  | 8 => ⟨S_, .i32⟩
  | 9 => ⟨S32x8192x3, .i32⟩
  | 10 => ⟨S32x8192x3, .i32⟩
  | 11 => ⟨S_, .i32⟩
  | 12 => ⟨S32x8192x3, .i32⟩
  | 13 => ⟨S32x8192x3, .i32⟩
  | 14 => ⟨S32x8192x3, .f32⟩
  | 15 => ⟨S_, .f32⟩
  | 16 => ⟨S32x8192x3, .f32⟩
  | 17 => ⟨S32x8192x3, .f32⟩
  | 18 => ⟨S1x1x1, .f32⟩
  | 19 => ⟨S32x8192x3, .f32⟩
  | 20 => ⟨S32x8192x3, .f32⟩
  | 21 => ⟨S32x8192x3, .f32⟩
  | 22 => ⟨S32x8192x3, .f32⟩
  | 23 => ⟨S32x8192x3, .f32⟩
  | 24 => ⟨S32x8192x3, .f32⟩
  | 25 => ⟨S32x8192x3, .f32⟩
  | 26 => ⟨S32x8192x3, .f32⟩
  | 27 => ⟨S32x8192x3, .f32⟩
  | 28 => ⟨S32x8192x3, .f32⟩
  | 29 => ⟨S1x1x3, .f32⟩
  | 30 => ⟨S32x8192x3, .f32⟩
  | 31 => ⟨S32x8192x3, .f32⟩
  | 32 => ⟨S32x8192x3, .i32⟩
  | 33 => ⟨S_, .f32⟩
  | 34 => ⟨S_, .i32⟩
  | 35 => ⟨S32x8192, .f32⟩
  | 36 => ⟨S32x8192, .i32⟩
  | 37 => ⟨S_, .i32⟩
  | 38 => ⟨S32x8192, .i32⟩
  | 39 => ⟨S32x8192, .i32⟩
  | 40 => ⟨S32x1, .i32⟩
  | 41 => ⟨S32, .i32⟩
  | 42 => ⟨S_, .i32⟩
  | 43 => ⟨S_, .i32⟩
  | 44 => ⟨S_, .i32⟩
  | 45 => ⟨S32, .i32⟩
  | 46 => ⟨S32, .i32⟩
  | 47 => ⟨S_, .i32⟩
  | 48 => ⟨S32, .i32⟩
  | 49 => ⟨S32, .i32⟩
  | 50 => ⟨S_, .i32⟩
  | 51 => ⟨S1, .i32⟩
  | 52 => ⟨S32x8192, .i32⟩
  | 53 => ⟨S32x1, .i32⟩
  | 54 => ⟨S32, .i32⟩
  | 55 => ⟨S_, .i32⟩
  | 56 => ⟨S_, .i32⟩
  | 57 => ⟨S_, .i32⟩
  | 58 => ⟨S32, .i32⟩
  | 59 => ⟨S32, .i32⟩
  | 60 => ⟨S_, .i32⟩
  | 61 => ⟨S32, .i32⟩
  | 62 => ⟨S32, .i32⟩
  | 63 => ⟨S_, .i32⟩
  | 64 => ⟨S1, .i32⟩
  | 65 => ⟨S32x8192, .i32⟩
  | 66 => ⟨S8192, .i32⟩
  | 67 => ⟨S1x8192, .i32⟩
  | 68 => ⟨S32x8192, .i32⟩
  | 69 => ⟨S32x8192, .i32⟩
  | 70 => ⟨S32x128x8192, .f32⟩
  | _ => ⟨S32x128x8192, .f32⟩

abbrev hbmTy (i : Nat) : BufTy := match i / 128 with
  | 0 => hbmTy0_0 i
  | 1 => hbmTy0_1 i
  | 2 => hbmTy0_2 i
  | _ => ⟨S32x128x8192, .f32⟩

abbrev bufTy : (tb : Table) → Fin (nBuf tb) → BufTy
  | .hbm, ⟨i, _⟩ => hbmTy i
  | .local .scVector .vmem, ⟨0, _⟩ => ⟨S8192, .i32⟩
  | .local .scVector .vmem, ⟨1, _⟩ => ⟨S4x8192, .f32⟩
  | .local .scVector .vmem, ⟨2, _⟩ => ⟨S4x8192, .f32⟩
  | .local .scVector .vmem, ⟨3, _⟩ => ⟨S2x8192, .f32⟩
  | .local .scVector .vmem, ⟨4, _⟩ => ⟨S2x8192, .f32⟩
  | _, _ => ⟨S32x128x8192, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_cst : Ref sig .tc := ⟨.hbm, 13, rfl⟩
abbrev main_call0_cst_0 : Ref sig .tc := ⟨.hbm, 14, rfl⟩
abbrev main_call0_call0_v0 : Ref sig .tc := ⟨.hbm, 15, rfl⟩
abbrev main_call0_call0_v1 : Ref sig .tc := ⟨.hbm, 16, rfl⟩
abbrev main_call0_call0_v2 : Ref sig .tc := ⟨.hbm, 17, rfl⟩
abbrev main_call0_call0_v3 : Ref sig .tc := ⟨.hbm, 18, rfl⟩
abbrev main_call0_call0_v4 : Ref sig .tc := ⟨.hbm, 19, rfl⟩
abbrev main_call0_call0_v5 : Ref sig .tc := ⟨.hbm, 20, rfl⟩
abbrev main_call0_call0_v6 : Ref sig .tc := ⟨.hbm, 21, rfl⟩
abbrev main_call0_call0_v7 : Ref sig .tc := ⟨.hbm, 22, rfl⟩
abbrev main_call0_call0_v8 : Ref sig .tc := ⟨.hbm, 23, rfl⟩
abbrev main_call0_call0_v9 : Ref sig .tc := ⟨.hbm, 24, rfl⟩
abbrev main_call0_call0_c : Ref sig .tc := ⟨.hbm, 25, rfl⟩
abbrev main_call0_call0_v10 : Ref sig .tc := ⟨.hbm, 26, rfl⟩
abbrev main_call0_call0_v11 : Ref sig .tc := ⟨.hbm, 27, rfl⟩
abbrev main_call0_call0_c_0 : Ref sig .tc := ⟨.hbm, 28, rfl⟩
abbrev main_call0_call0_v12 : Ref sig .tc := ⟨.hbm, 29, rfl⟩
abbrev main_call0_call0_v13 : Ref sig .tc := ⟨.hbm, 30, rfl⟩
abbrev main_call0_call0_c_1 : Ref sig .tc := ⟨.hbm, 31, rfl⟩
abbrev main_call0_call0_v14 : Ref sig .tc := ⟨.hbm, 32, rfl⟩
abbrev main_call0_call0_v15 : Ref sig .tc := ⟨.hbm, 33, rfl⟩
abbrev main_call0_call0_v16 : Ref sig .tc := ⟨.hbm, 34, rfl⟩
abbrev main_call0_call0_v17 : Ref sig .tc := ⟨.hbm, 35, rfl⟩
abbrev main_call0_call0_c_2 : Ref sig .tc := ⟨.hbm, 36, rfl⟩
abbrev main_call0_call0_v18 : Ref sig .tc := ⟨.hbm, 37, rfl⟩
abbrev main_call0_call0_v19 : Ref sig .tc := ⟨.hbm, 38, rfl⟩
abbrev main_call0_call0_v20 : Ref sig .tc := ⟨.hbm, 39, rfl⟩
abbrev main_call0_call0_v21 : Ref sig .tc := ⟨.hbm, 40, rfl⟩
abbrev main_call0_call0_call0_v0 : Ref sig .tc := ⟨.hbm, 41, rfl⟩
abbrev main_call0_call0_call0_c : Ref sig .tc := ⟨.hbm, 42, rfl⟩
abbrev main_call0_call0_call0_v1 : Ref sig .tc := ⟨.hbm, 43, rfl⟩
abbrev main_call0_call0_call0_v2 : Ref sig .tc := ⟨.hbm, 44, rfl⟩
abbrev main_call0_call0_call0_v3 : Ref sig .tc := ⟨.hbm, 45, rfl⟩
abbrev main_call0_call0_call0_v4 : Ref sig .tc := ⟨.hbm, 46, rfl⟩
abbrev main_call0_call0_call0_v5 : Ref sig .tc := ⟨.hbm, 47, rfl⟩
abbrev main_call0_call0_call0_v6 : Ref sig .tc := ⟨.hbm, 48, rfl⟩
abbrev main_call0_call0_call0_c_0 : Ref sig .tc := ⟨.hbm, 49, rfl⟩
abbrev main_call0_call0_call0_v7 : Ref sig .tc := ⟨.hbm, 50, rfl⟩
abbrev main_call0_call0_call0_v8 : Ref sig .tc := ⟨.hbm, 51, rfl⟩
abbrev main_call0_call0_call0_c_1 : Ref sig .tc := ⟨.hbm, 52, rfl⟩
abbrev main_call0_call0_call0_v9 : Ref sig .tc := ⟨.hbm, 53, rfl⟩
abbrev main_call0_call0_call0_v10 : Ref sig .tc := ⟨.hbm, 54, rfl⟩
abbrev main_call0_call0_call0_v11 : Ref sig .tc := ⟨.hbm, 55, rfl⟩
abbrev main_call0_call0_call0_v12 : Ref sig .tc := ⟨.hbm, 56, rfl⟩
abbrev main_call0_call0_call0_v13 : Ref sig .tc := ⟨.hbm, 57, rfl⟩
abbrev main_call0_call0_call0_c_2 : Ref sig .tc := ⟨.hbm, 58, rfl⟩
abbrev main_call0_call0_call0_v14 : Ref sig .tc := ⟨.hbm, 59, rfl⟩
abbrev main_call0_call0_call0_v15 : Ref sig .tc := ⟨.hbm, 60, rfl⟩
abbrev main_call0_call0_call0_c_3 : Ref sig .tc := ⟨.hbm, 61, rfl⟩
abbrev main_call0_call0_call0_v16 : Ref sig .tc := ⟨.hbm, 62, rfl⟩
abbrev main_call0_call0_call0_v17 : Ref sig .tc := ⟨.hbm, 63, rfl⟩
abbrev main_call0_call0_call0_v18 : Ref sig .tc := ⟨.hbm, 64, rfl⟩
abbrev main_call0_call0_call0_v19 : Ref sig .tc := ⟨.hbm, 65, rfl⟩
abbrev main_call0_call0_call0_v20 : Ref sig .tc := ⟨.hbm, 66, rfl⟩
abbrev main_call0_call0_call0_c_4 : Ref sig .tc := ⟨.hbm, 67, rfl⟩
abbrev main_call0_call0_call0_v21 : Ref sig .tc := ⟨.hbm, 68, rfl⟩
abbrev main_call0_call0_call0_v22 : Ref sig .tc := ⟨.hbm, 69, rfl⟩
abbrev main_call0_call0_call0_c_5 : Ref sig .tc := ⟨.hbm, 70, rfl⟩
abbrev main_call0_call0_call0_v23 : Ref sig .tc := ⟨.hbm, 71, rfl⟩
abbrev main_call0_call0_call0_v24 : Ref sig .tc := ⟨.hbm, 72, rfl⟩
abbrev main_call0_call0_call0_v25 : Ref sig .tc := ⟨.hbm, 73, rfl⟩
abbrev main_call0_call0_call0_v26 : Ref sig .tc := ⟨.hbm, 74, rfl⟩
abbrev main_call0_call0_call0_v27 : Ref sig .tc := ⟨.hbm, 75, rfl⟩
abbrev main_call0_call0_call0_c_6 : Ref sig .tc := ⟨.hbm, 76, rfl⟩
abbrev main_call0_call0_call0_v28 : Ref sig .tc := ⟨.hbm, 77, rfl⟩
abbrev main_call0_call0_call0_v29 : Ref sig .tc := ⟨.hbm, 78, rfl⟩
abbrev main_call0_call0_call0_c_7 : Ref sig .tc := ⟨.hbm, 79, rfl⟩
abbrev main_call0_call0_call0_v30 : Ref sig .tc := ⟨.hbm, 80, rfl⟩
abbrev main_call0_call0_call0_v31 : Ref sig .tc := ⟨.hbm, 81, rfl⟩
abbrev main_call0_call0_call0_v32 : Ref sig .tc := ⟨.hbm, 82, rfl⟩
abbrev main_call0_call0_call0_v33 : Ref sig .tc := ⟨.hbm, 83, rfl⟩
abbrev main_call0_call0_call0_v34 : Ref sig .tc := ⟨.hbm, 84, rfl⟩
abbrev main_call0_call0_call0_v35 : Ref sig .tc := ⟨.hbm, 85, rfl⟩
abbrev main_call0_call0_call0_v36 : Ref sig .tc := ⟨.hbm, 86, rfl⟩
abbrev main_call0_call0_call0_v37 : Ref sig .tc := ⟨.hbm, 87, rfl⟩
abbrev main_call0_call0_call0_c_8 : Ref sig .tc := ⟨.hbm, 88, rfl⟩
abbrev main_call0_call0_call0_v38 : Ref sig .tc := ⟨.hbm, 89, rfl⟩
abbrev main_call0_call0_call0_v39 : Ref sig .tc := ⟨.hbm, 90, rfl⟩
abbrev main_call0_call0_call0_v40 : Ref sig .tc := ⟨.hbm, 91, rfl⟩
abbrev main_call0_call0_call0_c_9 : Ref sig .tc := ⟨.hbm, 92, rfl⟩
abbrev main_call0_call0_call0_v41 : Ref sig .tc := ⟨.hbm, 93, rfl⟩
abbrev main_call0_call0_call0_v42 : Ref sig .tc := ⟨.hbm, 94, rfl⟩
abbrev main_call0_call0_call0_c_10 : Ref sig .tc := ⟨.hbm, 95, rfl⟩
abbrev main_call0_call0_call0_v43 : Ref sig .tc := ⟨.hbm, 96, rfl⟩
abbrev main_call0_call0_call0_v44 : Ref sig .tc := ⟨.hbm, 97, rfl⟩
abbrev main_call0_call0_call0_v45 : Ref sig .tc := ⟨.hbm, 98, rfl⟩
abbrev main_call0_call0_call0_v46 : Ref sig .tc := ⟨.hbm, 99, rfl⟩
abbrev main_call0_call0_call0_v47 : Ref sig .tc := ⟨.hbm, 100, rfl⟩
abbrev main_call0_call0_call0_c_11 : Ref sig .tc := ⟨.hbm, 101, rfl⟩
abbrev main_call0_call0_call0_v48 : Ref sig .tc := ⟨.hbm, 102, rfl⟩
abbrev main_call0_call0_call0_v49 : Ref sig .tc := ⟨.hbm, 103, rfl⟩
abbrev main_call0_call0_call0_c_12 : Ref sig .tc := ⟨.hbm, 104, rfl⟩
abbrev main_call0_call0_call0_v50 : Ref sig .tc := ⟨.hbm, 105, rfl⟩
abbrev main_call0_call0_call0_v51 : Ref sig .tc := ⟨.hbm, 106, rfl⟩
abbrev main_call0_call0_call0_v52 : Ref sig .tc := ⟨.hbm, 107, rfl⟩
abbrev main_call0_call0_call0_v53 : Ref sig .tc := ⟨.hbm, 108, rfl⟩
abbrev main_call0_call0_call0_v54 : Ref sig .tc := ⟨.hbm, 109, rfl⟩
abbrev main_call0_call0_call0_c_13 : Ref sig .tc := ⟨.hbm, 110, rfl⟩
abbrev main_call0_call0_call0_v55 : Ref sig .tc := ⟨.hbm, 111, rfl⟩
abbrev main_call0_call0_call0_v56 : Ref sig .tc := ⟨.hbm, 112, rfl⟩
abbrev main_call0_call0_call0_c_14 : Ref sig .tc := ⟨.hbm, 113, rfl⟩
abbrev main_call0_call0_call0_v57 : Ref sig .tc := ⟨.hbm, 114, rfl⟩
abbrev main_call0_call0_call0_v58 : Ref sig .tc := ⟨.hbm, 115, rfl⟩
abbrev main_call0_call0_call0_v59 : Ref sig .tc := ⟨.hbm, 116, rfl⟩
abbrev main_call0_call0_call0_v60 : Ref sig .tc := ⟨.hbm, 117, rfl⟩
abbrev main_call0_call0_call0_v61 : Ref sig .tc := ⟨.hbm, 118, rfl⟩
abbrev main_call0_call0_call0_c_15 : Ref sig .tc := ⟨.hbm, 119, rfl⟩
abbrev main_call0_call0_call0_v62 : Ref sig .tc := ⟨.hbm, 120, rfl⟩
abbrev main_call0_call0_call0_v63 : Ref sig .tc := ⟨.hbm, 121, rfl⟩
abbrev main_call0_call0_call0_c_16 : Ref sig .tc := ⟨.hbm, 122, rfl⟩
abbrev main_call0_call0_call0_v64 : Ref sig .tc := ⟨.hbm, 123, rfl⟩
abbrev main_call0_call0_call0_v65 : Ref sig .tc := ⟨.hbm, 124, rfl⟩
abbrev main_call0_call0_call0_v66 : Ref sig .tc := ⟨.hbm, 125, rfl⟩
abbrev main_call0_call0_call0_v67 : Ref sig .tc := ⟨.hbm, 126, rfl⟩
abbrev main_call0_call0_call0_v68 : Ref sig .tc := ⟨.hbm, 127, rfl⟩
abbrev main_call0_call0_call0_v69 : Ref sig .tc := ⟨.hbm, 128, rfl⟩
abbrev main_call0_call0_call0_v70 : Ref sig .tc := ⟨.hbm, 129, rfl⟩
abbrev main_call0_call0_call0_v71 : Ref sig .tc := ⟨.hbm, 130, rfl⟩
abbrev main_call0_call0_call0_c_17 : Ref sig .tc := ⟨.hbm, 131, rfl⟩
abbrev main_call0_call0_call0_v72 : Ref sig .tc := ⟨.hbm, 132, rfl⟩
abbrev main_call0_call0_call0_v73 : Ref sig .tc := ⟨.hbm, 133, rfl⟩
abbrev main_call0_call0_call0_v74 : Ref sig .tc := ⟨.hbm, 134, rfl⟩
abbrev main_call0_call0_call0_c_18 : Ref sig .tc := ⟨.hbm, 135, rfl⟩
abbrev main_call0_call0_call0_v75 : Ref sig .tc := ⟨.hbm, 136, rfl⟩
abbrev main_call0_call0_call0_v76 : Ref sig .tc := ⟨.hbm, 137, rfl⟩
abbrev main_call0_call0_call0_c_19 : Ref sig .tc := ⟨.hbm, 138, rfl⟩
abbrev main_call0_call0_call0_v77 : Ref sig .tc := ⟨.hbm, 139, rfl⟩
abbrev main_call0_call0_call0_v78 : Ref sig .tc := ⟨.hbm, 140, rfl⟩
abbrev main_call0_call0_call0_v79 : Ref sig .tc := ⟨.hbm, 141, rfl⟩
abbrev main_call0_call0_call0_v80 : Ref sig .tc := ⟨.hbm, 142, rfl⟩
abbrev main_call0_call0_call0_v81 : Ref sig .tc := ⟨.hbm, 143, rfl⟩
abbrev main_call0_call0_call0_c_20 : Ref sig .tc := ⟨.hbm, 144, rfl⟩
abbrev main_call0_call0_call0_v82 : Ref sig .tc := ⟨.hbm, 145, rfl⟩
abbrev main_call0_call0_call0_v83 : Ref sig .tc := ⟨.hbm, 146, rfl⟩
abbrev main_call0_call0_call0_c_21 : Ref sig .tc := ⟨.hbm, 147, rfl⟩
abbrev main_call0_call0_call0_v84 : Ref sig .tc := ⟨.hbm, 148, rfl⟩
abbrev main_call0_call0_call0_v85 : Ref sig .tc := ⟨.hbm, 149, rfl⟩
abbrev main_call0_call0_call0_v86 : Ref sig .tc := ⟨.hbm, 150, rfl⟩
abbrev main_call0_call0_call0_v87 : Ref sig .tc := ⟨.hbm, 151, rfl⟩
abbrev main_call0_call0_call0_v88 : Ref sig .tc := ⟨.hbm, 152, rfl⟩
abbrev main_call0_call0_call0_c_22 : Ref sig .tc := ⟨.hbm, 153, rfl⟩
abbrev main_call0_call0_call0_v89 : Ref sig .tc := ⟨.hbm, 154, rfl⟩
abbrev main_call0_call0_call0_v90 : Ref sig .tc := ⟨.hbm, 155, rfl⟩
abbrev main_call0_call0_call0_c_23 : Ref sig .tc := ⟨.hbm, 156, rfl⟩
abbrev main_call0_call0_call0_v91 : Ref sig .tc := ⟨.hbm, 157, rfl⟩
abbrev main_call0_call0_call0_v92 : Ref sig .tc := ⟨.hbm, 158, rfl⟩
abbrev main_call0_call0_call0_v93 : Ref sig .tc := ⟨.hbm, 159, rfl⟩
abbrev main_call0_call0_call0_v94 : Ref sig .tc := ⟨.hbm, 160, rfl⟩
abbrev main_call0_call0_call0_v95 : Ref sig .tc := ⟨.hbm, 161, rfl⟩
abbrev main_call0_call0_call0_c_24 : Ref sig .tc := ⟨.hbm, 162, rfl⟩
abbrev main_call0_call0_call0_v96 : Ref sig .tc := ⟨.hbm, 163, rfl⟩
abbrev main_call0_call0_call0_v97 : Ref sig .tc := ⟨.hbm, 164, rfl⟩
abbrev main_call0_call0_call0_c_25 : Ref sig .tc := ⟨.hbm, 165, rfl⟩
abbrev main_call0_call0_call0_v98 : Ref sig .tc := ⟨.hbm, 166, rfl⟩
abbrev main_call0_call0_call0_v99 : Ref sig .tc := ⟨.hbm, 167, rfl⟩
abbrev main_call0_call0_call0_v100 : Ref sig .tc := ⟨.hbm, 168, rfl⟩
abbrev main_call0_call0_call0_v101 : Ref sig .tc := ⟨.hbm, 169, rfl⟩
abbrev main_call0_call0_call0_v102 : Ref sig .tc := ⟨.hbm, 170, rfl⟩
abbrev main_call0_call0_call0_v103 : Ref sig .tc := ⟨.hbm, 171, rfl⟩
abbrev main_call0_call0_call0_v104 : Ref sig .tc := ⟨.hbm, 172, rfl⟩
abbrev main_call0_call0_call0_v105 : Ref sig .tc := ⟨.hbm, 173, rfl⟩
abbrev main_call0_call0_call0_c_26 : Ref sig .tc := ⟨.hbm, 174, rfl⟩
abbrev main_call0_call0_call0_v106 : Ref sig .tc := ⟨.hbm, 175, rfl⟩
abbrev main_call0_call0_call0_v107 : Ref sig .tc := ⟨.hbm, 176, rfl⟩
abbrev main_call0_call0_call0_v108 : Ref sig .tc := ⟨.hbm, 177, rfl⟩
abbrev main_call0_call0_call0_c_27 : Ref sig .tc := ⟨.hbm, 178, rfl⟩
abbrev main_call0_call0_call0_v109 : Ref sig .tc := ⟨.hbm, 179, rfl⟩
abbrev main_call0_call0_call0_v110 : Ref sig .tc := ⟨.hbm, 180, rfl⟩
abbrev main_call0_call0_call0_c_28 : Ref sig .tc := ⟨.hbm, 181, rfl⟩
abbrev main_call0_call0_call0_v111 : Ref sig .tc := ⟨.hbm, 182, rfl⟩
abbrev main_call0_call0_call0_v112 : Ref sig .tc := ⟨.hbm, 183, rfl⟩
abbrev main_call0_call0_call0_v113 : Ref sig .tc := ⟨.hbm, 184, rfl⟩
abbrev main_call0_call0_call0_v114 : Ref sig .tc := ⟨.hbm, 185, rfl⟩
abbrev main_call0_call0_call0_v115 : Ref sig .tc := ⟨.hbm, 186, rfl⟩
abbrev main_call0_call0_call0_c_29 : Ref sig .tc := ⟨.hbm, 187, rfl⟩
abbrev main_call0_call0_call0_v116 : Ref sig .tc := ⟨.hbm, 188, rfl⟩
abbrev main_call0_call0_call0_v117 : Ref sig .tc := ⟨.hbm, 189, rfl⟩
abbrev main_call0_call0_call0_c_30 : Ref sig .tc := ⟨.hbm, 190, rfl⟩
abbrev main_call0_call0_call0_v118 : Ref sig .tc := ⟨.hbm, 191, rfl⟩
abbrev main_call0_call0_call0_v119 : Ref sig .tc := ⟨.hbm, 192, rfl⟩
abbrev main_call0_call0_call0_v120 : Ref sig .tc := ⟨.hbm, 193, rfl⟩
abbrev main_call0_call0_call0_v121 : Ref sig .tc := ⟨.hbm, 194, rfl⟩
abbrev main_call0_call0_call0_v122 : Ref sig .tc := ⟨.hbm, 195, rfl⟩
abbrev main_call0_call0_call0_c_31 : Ref sig .tc := ⟨.hbm, 196, rfl⟩
abbrev main_call0_call0_call0_v123 : Ref sig .tc := ⟨.hbm, 197, rfl⟩
abbrev main_call0_call0_call0_v124 : Ref sig .tc := ⟨.hbm, 198, rfl⟩
abbrev main_call0_call0_call0_c_32 : Ref sig .tc := ⟨.hbm, 199, rfl⟩
abbrev main_call0_call0_call0_v125 : Ref sig .tc := ⟨.hbm, 200, rfl⟩
abbrev main_call0_call0_call0_v126 : Ref sig .tc := ⟨.hbm, 201, rfl⟩
abbrev main_call0_call0_call0_v127 : Ref sig .tc := ⟨.hbm, 202, rfl⟩
abbrev main_call0_call0_call0_v128 : Ref sig .tc := ⟨.hbm, 203, rfl⟩
abbrev main_call0_call0_call0_v129 : Ref sig .tc := ⟨.hbm, 204, rfl⟩
abbrev main_call0_call0_call0_c_33 : Ref sig .tc := ⟨.hbm, 205, rfl⟩
abbrev main_call0_call0_call0_v130 : Ref sig .tc := ⟨.hbm, 206, rfl⟩
abbrev main_call0_call0_call0_v131 : Ref sig .tc := ⟨.hbm, 207, rfl⟩
abbrev main_call0_call0_call0_c_34 : Ref sig .tc := ⟨.hbm, 208, rfl⟩
abbrev main_call0_call0_call0_v132 : Ref sig .tc := ⟨.hbm, 209, rfl⟩
abbrev main_call0_call0_call0_v133 : Ref sig .tc := ⟨.hbm, 210, rfl⟩
abbrev main_call0_call0_call0_v134 : Ref sig .tc := ⟨.hbm, 211, rfl⟩
abbrev main_call0_call0_call0_v135 : Ref sig .tc := ⟨.hbm, 212, rfl⟩
abbrev main_call0_call0_call0_v136 : Ref sig .tc := ⟨.hbm, 213, rfl⟩
abbrev main_call0_call0_call0_v137 : Ref sig .tc := ⟨.hbm, 214, rfl⟩
abbrev main_call0_call0_call0_v138 : Ref sig .tc := ⟨.hbm, 215, rfl⟩
abbrev main_call0_call0_call0_v139 : Ref sig .tc := ⟨.hbm, 216, rfl⟩
abbrev main_call0_call0_call0_c_35 : Ref sig .tc := ⟨.hbm, 217, rfl⟩
abbrev main_call0_call0_call0_v140 : Ref sig .tc := ⟨.hbm, 218, rfl⟩
abbrev main_call0_call0_call0_v141 : Ref sig .tc := ⟨.hbm, 219, rfl⟩
abbrev main_call0_call0_call0_v142 : Ref sig .tc := ⟨.hbm, 220, rfl⟩
abbrev main_call0_call0_call0_c_36 : Ref sig .tc := ⟨.hbm, 221, rfl⟩
abbrev main_call0_call0_call0_v143 : Ref sig .tc := ⟨.hbm, 222, rfl⟩
abbrev main_call0_call0_call0_v144 : Ref sig .tc := ⟨.hbm, 223, rfl⟩
abbrev main_call0_call0_call0_c_37 : Ref sig .tc := ⟨.hbm, 224, rfl⟩
abbrev main_call0_call0_call0_v145 : Ref sig .tc := ⟨.hbm, 225, rfl⟩
abbrev main_call0_call0_call0_v146 : Ref sig .tc := ⟨.hbm, 226, rfl⟩
abbrev main_call0_call0_call0_v147 : Ref sig .tc := ⟨.hbm, 227, rfl⟩
abbrev main_call0_call0_call0_v148 : Ref sig .tc := ⟨.hbm, 228, rfl⟩
abbrev main_call0_call0_call0_v149 : Ref sig .tc := ⟨.hbm, 229, rfl⟩
abbrev main_call0_call0_call0_c_38 : Ref sig .tc := ⟨.hbm, 230, rfl⟩
abbrev main_call0_call0_call0_v150 : Ref sig .tc := ⟨.hbm, 231, rfl⟩
abbrev main_call0_call0_call0_v151 : Ref sig .tc := ⟨.hbm, 232, rfl⟩
abbrev main_call0_call0_call0_c_39 : Ref sig .tc := ⟨.hbm, 233, rfl⟩
abbrev main_call0_call0_call0_v152 : Ref sig .tc := ⟨.hbm, 234, rfl⟩
abbrev main_call0_call0_call0_v153 : Ref sig .tc := ⟨.hbm, 235, rfl⟩
abbrev main_call0_call0_call0_v154 : Ref sig .tc := ⟨.hbm, 236, rfl⟩
abbrev main_call0_call0_call0_v155 : Ref sig .tc := ⟨.hbm, 237, rfl⟩
abbrev main_call0_call0_call0_v156 : Ref sig .tc := ⟨.hbm, 238, rfl⟩
abbrev main_call0_call0_call0_c_40 : Ref sig .tc := ⟨.hbm, 239, rfl⟩
abbrev main_call0_call0_call0_v157 : Ref sig .tc := ⟨.hbm, 240, rfl⟩
abbrev main_call0_call0_call0_v158 : Ref sig .tc := ⟨.hbm, 241, rfl⟩
abbrev main_call0_call0_call0_c_41 : Ref sig .tc := ⟨.hbm, 242, rfl⟩
abbrev main_call0_call0_call0_v159 : Ref sig .tc := ⟨.hbm, 243, rfl⟩
abbrev main_call0_call0_call0_v160 : Ref sig .tc := ⟨.hbm, 244, rfl⟩
abbrev main_call0_call0_call0_v161 : Ref sig .tc := ⟨.hbm, 245, rfl⟩
abbrev main_call0_call0_call0_v162 : Ref sig .tc := ⟨.hbm, 246, rfl⟩
abbrev main_call0_call0_call0_v163 : Ref sig .tc := ⟨.hbm, 247, rfl⟩
abbrev main_call0_call0_call0_c_42 : Ref sig .tc := ⟨.hbm, 248, rfl⟩
abbrev main_call0_call0_call0_v164 : Ref sig .tc := ⟨.hbm, 249, rfl⟩
abbrev main_call0_call0_call0_v165 : Ref sig .tc := ⟨.hbm, 250, rfl⟩
abbrev main_call0_call0_call0_c_43 : Ref sig .tc := ⟨.hbm, 251, rfl⟩
abbrev main_call0_call0_call0_v166 : Ref sig .tc := ⟨.hbm, 252, rfl⟩
abbrev main_call0_call0_call0_v167 : Ref sig .tc := ⟨.hbm, 253, rfl⟩
abbrev main_call0_call0_call0_v168 : Ref sig .tc := ⟨.hbm, 254, rfl⟩
abbrev main_call0_call0_call0_v169 : Ref sig .tc := ⟨.hbm, 255, rfl⟩
abbrev main_call0_call0_call0_v170 : Ref sig .tc := ⟨.hbm, 256, rfl⟩
abbrev main_call0_call0_v22_0 : Ref sig .tc := ⟨.hbm, 257, rfl⟩
abbrev main_call0_call0_call0_v172 : Ref sig .tc := ⟨.hbm, 258, rfl⟩
abbrev main_call0_call0_call0_v173 : Ref sig .tc := ⟨.hbm, 259, rfl⟩
abbrev main_call0_call0_call0_c_44 : Ref sig .tc := ⟨.hbm, 260, rfl⟩
abbrev main_call0_call0_call0_v174 : Ref sig .tc := ⟨.hbm, 261, rfl⟩
abbrev main_call0_call0_v22_1 : Ref sig .tc := ⟨.hbm, 262, rfl⟩
abbrev main_call0_call0_v23 : Ref sig .tc := ⟨.hbm, 263, rfl⟩
abbrev main_call0_call0_c_3 : Ref sig .tc := ⟨.hbm, 264, rfl⟩
abbrev main_call0_call0_v24 : Ref sig .tc := ⟨.hbm, 265, rfl⟩
abbrev main_call0_call0_v25 : Ref sig .tc := ⟨.hbm, 266, rfl⟩
abbrev main_call0_call0_c_4 : Ref sig .tc := ⟨.hbm, 267, rfl⟩
abbrev main_call0_call0_v26 : Ref sig .tc := ⟨.hbm, 268, rfl⟩
abbrev main_call0_call0_v27 : Ref sig .tc := ⟨.hbm, 269, rfl⟩
abbrev main_call0_call0_v28 : Ref sig .tc := ⟨.hbm, 270, rfl⟩
abbrev main_call0_call0_cst : Ref sig .tc := ⟨.hbm, 271, rfl⟩
abbrev main_call0_call0_v29 : Ref sig .tc := ⟨.hbm, 272, rfl⟩
abbrev main_call0_call0_v30 : Ref sig .tc := ⟨.hbm, 273, rfl⟩
abbrev main_call0_call0_v31 : Ref sig .tc := ⟨.hbm, 274, rfl⟩
abbrev main_call0_call0_v32 : Ref sig .tc := ⟨.hbm, 275, rfl⟩
abbrev main_call0_call0_v33 : Ref sig .tc := ⟨.hbm, 276, rfl⟩
abbrev main_call0_call0_v34 : Ref sig .tc := ⟨.hbm, 277, rfl⟩
abbrev main_call0_call0_v35 : Ref sig .tc := ⟨.hbm, 278, rfl⟩
abbrev main_call0_call0_v36 : Ref sig .tc := ⟨.hbm, 279, rfl⟩
abbrev main_call0_v0 : Ref sig .tc := ⟨.hbm, 280, rfl⟩
abbrev main_call0_v1 : Ref sig .tc := ⟨.hbm, 281, rfl⟩
abbrev main_call0_v2 : Ref sig .tc := ⟨.hbm, 282, rfl⟩
abbrev main_call0_v3 : Ref sig .tc := ⟨.hbm, 283, rfl⟩
abbrev main_v8 : Ref sig .tc := ⟨.hbm, 284, rfl⟩
abbrev main_v9 : Ref sig .tc := ⟨.hbm, 285, rfl⟩
abbrev main_v10 : Ref sig .tc := ⟨.hbm, 286, rfl⟩
abbrev main_v11 : Ref sig .tc := ⟨.hbm, 287, rfl⟩
abbrev main_call1_v0 : Ref sig .tc := ⟨.hbm, 288, rfl⟩
abbrev main_call1_cst : Ref sig .tc := ⟨.hbm, 289, rfl⟩
abbrev main_call1_c : Ref sig .tc := ⟨.hbm, 290, rfl⟩
abbrev main_call1_v1_0 : Ref sig .tc := ⟨.hbm, 291, rfl⟩
abbrev main_v12 : Ref sig .tc := ⟨.hbm, 292, rfl⟩
abbrev main_c_2 : Ref sig .tc := ⟨.hbm, 293, rfl⟩
abbrev main_v13 : Ref sig .tc := ⟨.hbm, 294, rfl⟩
abbrev main_v14 : Ref sig .tc := ⟨.hbm, 295, rfl⟩
abbrev main_v15 : Ref sig .tc := ⟨.hbm, 296, rfl⟩
abbrev main_v16 : Ref sig .tc := ⟨.hbm, 297, rfl⟩
abbrev main_c_3 : Ref sig .tc := ⟨.hbm, 298, rfl⟩
abbrev main_c_4 : Ref sig .tc := ⟨.hbm, 299, rfl⟩
abbrev main_call2_v0 : Ref sig .tc := ⟨.hbm, 300, rfl⟩
abbrev main_call2_v1 : Ref sig .tc := ⟨.hbm, 301, rfl⟩
abbrev main_call2_v2 : Ref sig .tc := ⟨.hbm, 302, rfl⟩
abbrev main_call2_v3 : Ref sig .tc := ⟨.hbm, 303, rfl⟩
abbrev main_call2_v4 : Ref sig .tc := ⟨.hbm, 304, rfl⟩
abbrev main_v17 : Ref sig .tc := ⟨.hbm, 305, rfl⟩
abbrev main_c_5 : Ref sig .tc := ⟨.hbm, 306, rfl⟩
abbrev main_v18 : Ref sig .tc := ⟨.hbm, 307, rfl⟩
abbrev main_v19 : Ref sig .tc := ⟨.hbm, 308, rfl⟩
abbrev main_v20 : Ref sig .tc := ⟨.hbm, 309, rfl⟩
abbrev main_v21 : Ref sig .tc := ⟨.hbm, 310, rfl⟩
abbrev main_c_6 : Ref sig .tc := ⟨.hbm, 311, rfl⟩
abbrev main_c_7 : Ref sig .tc := ⟨.hbm, 312, rfl⟩
abbrev main_call3_v0 : Ref sig .tc := ⟨.hbm, 313, rfl⟩
abbrev main_call3_v1 : Ref sig .tc := ⟨.hbm, 314, rfl⟩
abbrev main_call3_v2 : Ref sig .tc := ⟨.hbm, 315, rfl⟩
abbrev main_call3_v3 : Ref sig .tc := ⟨.hbm, 316, rfl⟩
abbrev main_call3_v4 : Ref sig .tc := ⟨.hbm, 317, rfl⟩
abbrev main_v22 : Ref sig .tc := ⟨.hbm, 318, rfl⟩
abbrev main_c_8 : Ref sig .tc := ⟨.hbm, 319, rfl⟩
abbrev main_v23 : Ref sig .tc := ⟨.hbm, 320, rfl⟩
abbrev main_v24 : Ref sig .tc := ⟨.hbm, 321, rfl⟩
abbrev main_v25 : Ref sig .tc := ⟨.hbm, 322, rfl⟩
abbrev main_v26 : Ref sig .tc := ⟨.hbm, 323, rfl⟩
abbrev main_v27 : Ref sig .tc := ⟨.hbm, 324, rfl⟩
abbrev main_v28 : Ref sig .tc := ⟨.hbm, 325, rfl⟩
abbrev main_v29 : Ref sig .tc := ⟨.hbm, 326, rfl⟩
abbrev main_arg0_scv : Ref sig .scVector := ⟨.hbm, 0, rfl⟩
abbrev main_v28_scv : Ref sig .scVector := ⟨.hbm, 325, rfl⟩
abbrev main_v29_scv : Ref sig .scVector := ⟨.hbm, 326, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_12_r0 : BitVec 32 := 0#32
  ![v1.toNat, 0]
def k0_off2 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let c0_i32_0 : BitVec 32 := 0#32
  ![v1.toNat, 0, 0]
@[reducible] def k0_t1_loop : Scf.Loop 32 :=
  let c0_i32_4 : BitVec 32 := 0#32
  let c16_i32 : BitVec 32 := 16#32
  let v6 : BitVec 32 := Scalar.addi c0_i32_4 c16_i32
  let c1_i32 : BitVec 32 := 1#32
  ⟨c0_i32_4, v6, c1_i32⟩
def k0_off3 (i : grid0.Coords) (k0_t1 : Fin k0_t1_loop.trips) (c0_i32_13 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_12 : BitVec 32 := 2#32
  let c0_i32_4 : BitVec 32 := 0#32
  let c1_i32 : BitVec 32 := 1#32
  let arg14 : BitVec 32 := Scf.iv c0_i32_4 c1_i32 k0_t1
  let v15 : BitVec 32 := Scalar.muli c2_i32_12 arg14
  let v16 : BitVec 32 := Scalar.addi v15 c0_i32_13
  let c4_i32 : BitVec 32 := 4#32
  let v17 : BitVec 32 := Scalar.muli v16 c4_i32
  let c0_i32_14 : BitVec 32 := 0#32
  ![v1.toNat, v17.toNat, 0]
def k0_cond1 (k0_t1 : Fin k0_t1_loop.trips) : BitVec 1 :=
  let c2_i32_12 : BitVec 32 := 2#32
  let c0_i32_4 : BitVec 32 := 0#32
  let c1_i32 : BitVec 32 := 1#32
  let arg14 : BitVec 32 := Scf.iv c0_i32_4 c1_i32 k0_t1
  let v15 : BitVec 32 := Scalar.muli c2_i32_12 arg14
  let c0_i32_13 : BitVec 32 := 0#32
  let v16 : BitVec 32 := Scalar.addi v15 c0_i32_13
  let c1_i32_16 : BitVec 32 := 1#32
  let v22 : BitVec 32 := Scalar.addi v16 c1_i32_16
  let c32_i32 : BitVec 32 := 32#32
  let v23 : BitVec 1 := Scalar.cmpi .slt v22 c32_i32
  let v24 : BitVec 32 := Scalar.extui v23
  let c0_i32_17 : BitVec 32 := 0#32
  let v25 : BitVec 1 := Scalar.cmpi .ne v24 c0_i32_17
  v25

def k0_off4 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_12 : BitVec 32 := 2#32
  let c0_i32_4 : BitVec 32 := 0#32
  let c1_i32 : BitVec 32 := 1#32
  let arg14 : BitVec 32 := Scf.iv c0_i32_4 c1_i32 k0_t1
  let v15 : BitVec 32 := Scalar.muli c2_i32_12 arg14
  let c0_i32_13 : BitVec 32 := 0#32
  let v16 : BitVec 32 := Scalar.addi v15 c0_i32_13
  let c4_i32 : BitVec 32 := 4#32
  let v17 : BitVec 32 := Scalar.muli v16 c4_i32
  let c4_i32_60 : BitVec 32 := 4#32
  let v72 : BitVec 32 := Scalar.addi v17 c4_i32_60
  let c0_i32_61 : BitVec 32 := 0#32
  ![v1.toNat, v72.toNat, 0]
def k0_cond2 (k0_t1 : Fin k0_t1_loop.trips) : BitVec 1 :=
  let c2_i32_12 : BitVec 32 := 2#32
  let c0_i32_4 : BitVec 32 := 0#32
  let c1_i32 : BitVec 32 := 1#32
  let arg14 : BitVec 32 := Scf.iv c0_i32_4 c1_i32 k0_t1
  let v15 : BitVec 32 := Scalar.muli c2_i32_12 arg14
  let c0_i32_13 : BitVec 32 := 0#32
  let v16 : BitVec 32 := Scalar.addi v15 c0_i32_13
  let c0_i32_18 : BitVec 32 := 0#32
  let v26 : BitVec 1 := Scalar.cmpi .sgt v16 c0_i32_18
  let v27 : BitVec 32 := Scalar.extui v26
  let c0_i32_19 : BitVec 32 := 0#32
  let v28 : BitVec 1 := Scalar.cmpi .ne v27 c0_i32_19
  v28

def k0_off5 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_12 : BitVec 32 := 2#32
  let c0_i32_4 : BitVec 32 := 0#32
  let c1_i32 : BitVec 32 := 1#32
  let arg14 : BitVec 32 := Scf.iv c0_i32_4 c1_i32 k0_t1
  let v15 : BitVec 32 := Scalar.muli c2_i32_12 arg14
  let c0_i32_13 : BitVec 32 := 0#32
  let v16 : BitVec 32 := Scalar.addi v15 c0_i32_13
  let c4_i32 : BitVec 32 := 4#32
  let v17 : BitVec 32 := Scalar.muli v16 c4_i32
  let c4_i32_60 : BitVec 32 := 4#32
  let v72 : BitVec 32 := Scalar.subi v17 c4_i32_60
  let c0_i32_61 : BitVec 32 := 0#32
  let v73 : BitVec 32 := Scalar.addi v72 c0_i32_61
  let c0_i32_62 : BitVec 32 := 0#32
  ![v1.toNat, v73.toNat, 0]
@[reducible] def k0_t2_loop : Scf.Loop 32 :=
  let c0_i32_20 : BitVec 32 := 0#32
  let c512_i32 : BitVec 32 := 512#32
  let v29 : BitVec 32 := Scalar.addi c0_i32_20 c512_i32
  let c1_i32_21 : BitVec 32 := 1#32
  ⟨c0_i32_20, v29, c1_i32_21⟩
def k0_off6 (k0_t2 : Fin k0_t2_loop.trips) : Fin 1 → Nat :=
  let c0_i32_61 : BitVec 32 := 0#32
  let c0_i32_20 : BitVec 32 := 0#32
  let c1_i32_21 : BitVec 32 := 1#32
  let arg15 : BitVec 32 := Scf.iv c0_i32_20 c1_i32_21 k0_t2
  let c1_i32_60 : BitVec 32 := 1#32
  let v72 : BitVec 32 := Scalar.muli arg15 c1_i32_60
  let v73 : BitVec 32 := Scalar.addi c0_i32_61 v72
  let c16_i32_62 : BitVec 32 := 16#32
  let v74 : BitVec 32 := Scalar.muli v73 c16_i32_62
  let v75 : Index := Scalar.indexCast v74
  ![v75.toNat]

def k0_chk1 (v76 : IVec S16 32) (v77 : IVec S16 32) : Prop :=
  (∀ a x, ((![v77, v76] : Fin 2 → IVec S16 32) a x).toNat < S4x8192.size a)
theorem k0_idx1_inb : ∀ (v76 : IVec S16 32) (v77 : IVec S16 32) (k0_hw1 : k0_chk1 v76 v77), ∀ a x, ((![v77, v76] : Fin 2 → IVec S16 32) a x).toNat < S4x8192.size a := fun v76 v77 k0_hw1 => k0_hw1
def k0_off7 (k0_t2 : Fin k0_t2_loop.trips) : Fin 2 → Nat :=
  let c0_i32_65 : BitVec 32 := 0#32
  let v80 : Index := Scalar.indexCast c0_i32_65
  let c0_i32_61 : BitVec 32 := 0#32
  let c0_i32_20 : BitVec 32 := 0#32
  let c1_i32_21 : BitVec 32 := 1#32
  let arg15 : BitVec 32 := Scf.iv c0_i32_20 c1_i32_21 k0_t2
  let c1_i32_60 : BitVec 32 := 1#32
  let v72 : BitVec 32 := Scalar.muli arg15 c1_i32_60
  let v73 : BitVec 32 := Scalar.addi c0_i32_61 v72
  let c16_i32_64 : BitVec 32 := 16#32
  let v79 : BitVec 32 := Scalar.muli v73 c16_i32_64
  let v81 : Index := Scalar.indexCast v79
  ![0, v81.toNat]

def k0_chk2 (v76 : IVec S16 32) (v83 : IVec S16 32) : Prop :=
  (∀ a x, ((![v83, v76] : Fin 2 → IVec S16 32) a x).toNat < S4x8192.size a)
theorem k0_idx2_inb : ∀ (v76 : IVec S16 32) (v83 : IVec S16 32) (k0_hw2 : k0_chk2 v76 v83), ∀ a x, ((![v83, v76] : Fin 2 → IVec S16 32) a x).toNat < S4x8192.size a := fun v76 v83 k0_hw2 => k0_hw2
def k0_off8 (k0_t2 : Fin k0_t2_loop.trips) : Fin 2 → Nat :=
  let c1_i32_68 : BitVec 32 := 1#32
  let v86 : Index := Scalar.indexCast c1_i32_68
  let c0_i32_61 : BitVec 32 := 0#32
  let c0_i32_20 : BitVec 32 := 0#32
  let c1_i32_21 : BitVec 32 := 1#32
  let arg15 : BitVec 32 := Scf.iv c0_i32_20 c1_i32_21 k0_t2
  let c1_i32_60 : BitVec 32 := 1#32
  let v72 : BitVec 32 := Scalar.muli arg15 c1_i32_60
  let v73 : BitVec 32 := Scalar.addi c0_i32_61 v72
  let c16_i32_67 : BitVec 32 := 16#32
  let v85 : BitVec 32 := Scalar.muli v73 c16_i32_67
  let v87 : Index := Scalar.indexCast v85
  ![1, v87.toNat]
def k0_off9 (i : grid0.Coords) (k0_t1 : Fin k0_t1_loop.trips) (c0_i32_13 : BitVec 32) (c0_i32_23 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_12 : BitVec 32 := 2#32
  let c0_i32_4 : BitVec 32 := 0#32
  let c1_i32 : BitVec 32 := 1#32
  let arg14 : BitVec 32 := Scf.iv c0_i32_4 c1_i32 k0_t1
  let v15 : BitVec 32 := Scalar.muli c2_i32_12 arg14
  let v16 : BitVec 32 := Scalar.addi v15 c0_i32_13
  let c4_i32 : BitVec 32 := 4#32
  let v17 : BitVec 32 := Scalar.muli v16 c4_i32
  let v30 : BitVec 32 := Scalar.addi v17 c0_i32_23
  let c0_i32_24 : BitVec 32 := 0#32
  ![v1.toNat, v30.toNat, 0]
def k0_cond3 (k0_t1 : Fin k0_t1_loop.trips) : BitVec 1 :=
  let c2_i32_12 : BitVec 32 := 2#32
  let c0_i32_4 : BitVec 32 := 0#32
  let c1_i32 : BitVec 32 := 1#32
  let arg14 : BitVec 32 := Scf.iv c0_i32_4 c1_i32 k0_t1
  let v15 : BitVec 32 := Scalar.muli c2_i32_12 arg14
  let c0_i32_13 : BitVec 32 := 0#32
  let v16 : BitVec 32 := Scalar.addi v15 c0_i32_13
  let c0_i32_26 : BitVec 32 := 0#32
  let v35 : BitVec 1 := Scalar.cmpi .sgt v16 c0_i32_26
  let v36 : BitVec 32 := Scalar.extui v35
  let c0_i32_27 : BitVec 32 := 0#32
  let v37 : BitVec 1 := Scalar.cmpi .ne v36 c0_i32_27
  v37

def k0_off10 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_12 : BitVec 32 := 2#32
  let c0_i32_4 : BitVec 32 := 0#32
  let c1_i32 : BitVec 32 := 1#32
  let arg14 : BitVec 32 := Scf.iv c0_i32_4 c1_i32 k0_t1
  let v15 : BitVec 32 := Scalar.muli c2_i32_12 arg14
  let c0_i32_13 : BitVec 32 := 0#32
  let v16 : BitVec 32 := Scalar.addi v15 c0_i32_13
  let c4_i32 : BitVec 32 := 4#32
  let v17 : BitVec 32 := Scalar.muli v16 c4_i32
  let c4_i32_60 : BitVec 32 := 4#32
  let v72 : BitVec 32 := Scalar.subi v17 c4_i32_60
  let c2_i32_61 : BitVec 32 := 2#32
  let v73 : BitVec 32 := Scalar.addi v72 c2_i32_61
  let c0_i32_62 : BitVec 32 := 0#32
  ![v1.toNat, v73.toNat, 0]
@[reducible] def k0_t3_loop : Scf.Loop 32 :=
  let c0_i32_28 : BitVec 32 := 0#32
  let c512_i32_29 : BitVec 32 := 512#32
  let v38 : BitVec 32 := Scalar.addi c0_i32_28 c512_i32_29
  let c1_i32_30 : BitVec 32 := 1#32
  ⟨c0_i32_28, v38, c1_i32_30⟩
def k0_off11 (k0_t3 : Fin k0_t3_loop.trips) : Fin 1 → Nat :=
  let c0_i32_61 : BitVec 32 := 0#32
  let c0_i32_28 : BitVec 32 := 0#32
  let c1_i32_30 : BitVec 32 := 1#32
  let arg15 : BitVec 32 := Scf.iv c0_i32_28 c1_i32_30 k0_t3
  let c1_i32_60 : BitVec 32 := 1#32
  let v72 : BitVec 32 := Scalar.muli arg15 c1_i32_60
  let v73 : BitVec 32 := Scalar.addi c0_i32_61 v72
  let c16_i32_62 : BitVec 32 := 16#32
  let v74 : BitVec 32 := Scalar.muli v73 c16_i32_62
  let v75 : Index := Scalar.indexCast v74
  ![v75.toNat]

def k0_chk3 (v76 : IVec S16 32) (v77 : IVec S16 32) : Prop :=
  (∀ a x, ((![v77, v76] : Fin 2 → IVec S16 32) a x).toNat < S4x8192.size a)
theorem k0_idx3_inb : ∀ (v76 : IVec S16 32) (v77 : IVec S16 32) (k0_hw3 : k0_chk3 v76 v77), ∀ a x, ((![v77, v76] : Fin 2 → IVec S16 32) a x).toNat < S4x8192.size a := fun v76 v77 k0_hw3 => k0_hw3
def k0_off12 (k0_t3 : Fin k0_t3_loop.trips) : Fin 2 → Nat :=
  let c0_i32_65 : BitVec 32 := 0#32
  let v80 : Index := Scalar.indexCast c0_i32_65
  let c0_i32_61 : BitVec 32 := 0#32
  let c0_i32_28 : BitVec 32 := 0#32
  let c1_i32_30 : BitVec 32 := 1#32
  let arg15 : BitVec 32 := Scf.iv c0_i32_28 c1_i32_30 k0_t3
  let c1_i32_60 : BitVec 32 := 1#32
  let v72 : BitVec 32 := Scalar.muli arg15 c1_i32_60
  let v73 : BitVec 32 := Scalar.addi c0_i32_61 v72
  let c16_i32_64 : BitVec 32 := 16#32
  let v79 : BitVec 32 := Scalar.muli v73 c16_i32_64
  let v81 : Index := Scalar.indexCast v79
  ![0, v81.toNat]

def k0_chk4 (v76 : IVec S16 32) (v83 : IVec S16 32) : Prop :=
  (∀ a x, ((![v83, v76] : Fin 2 → IVec S16 32) a x).toNat < S4x8192.size a)
theorem k0_idx4_inb : ∀ (v76 : IVec S16 32) (v83 : IVec S16 32) (k0_hw4 : k0_chk4 v76 v83), ∀ a x, ((![v83, v76] : Fin 2 → IVec S16 32) a x).toNat < S4x8192.size a := fun v76 v83 k0_hw4 => k0_hw4
def k0_off13 (k0_t3 : Fin k0_t3_loop.trips) : Fin 2 → Nat :=
  let c1_i32_67 : BitVec 32 := 1#32
  let v86 : Index := Scalar.indexCast c1_i32_67
  let c0_i32_61 : BitVec 32 := 0#32
  let c0_i32_28 : BitVec 32 := 0#32
  let c1_i32_30 : BitVec 32 := 1#32
  let arg15 : BitVec 32 := Scf.iv c0_i32_28 c1_i32_30 k0_t3
  let c1_i32_60 : BitVec 32 := 1#32
  let v72 : BitVec 32 := Scalar.muli arg15 c1_i32_60
  let v73 : BitVec 32 := Scalar.addi c0_i32_61 v72
  let c16_i32_66 : BitVec 32 := 16#32
  let v85 : BitVec 32 := Scalar.muli v73 c16_i32_66
  let v87 : Index := Scalar.indexCast v85
  ![1, v87.toNat]
def k0_cond4 (k0_t1 : Fin k0_t1_loop.trips) : BitVec 1 :=
  let c2_i32_12 : BitVec 32 := 2#32
  let c0_i32_4 : BitVec 32 := 0#32
  let c1_i32 : BitVec 32 := 1#32
  let arg14 : BitVec 32 := Scf.iv c0_i32_4 c1_i32 k0_t1
  let v15 : BitVec 32 := Scalar.muli c2_i32_12 arg14
  let c1_i32_35 : BitVec 32 := 1#32
  let v44 : BitVec 32 := Scalar.addi v15 c1_i32_35
  let c1_i32_39 : BitVec 32 := 1#32
  let v50 : BitVec 32 := Scalar.addi v44 c1_i32_39
  let c32_i32_40 : BitVec 32 := 32#32
  let v51 : BitVec 1 := Scalar.cmpi .slt v50 c32_i32_40
  let v52 : BitVec 32 := Scalar.extui v51
  let c0_i32_41 : BitVec 32 := 0#32
  let v53 : BitVec 1 := Scalar.cmpi .ne v52 c0_i32_41
  v53

def k0_off14 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_12 : BitVec 32 := 2#32
  let c0_i32_4 : BitVec 32 := 0#32
  let c1_i32 : BitVec 32 := 1#32
  let arg14 : BitVec 32 := Scf.iv c0_i32_4 c1_i32 k0_t1
  let v15 : BitVec 32 := Scalar.muli c2_i32_12 arg14
  let c1_i32_35 : BitVec 32 := 1#32
  let v44 : BitVec 32 := Scalar.addi v15 c1_i32_35
  let c4_i32_36 : BitVec 32 := 4#32
  let v45 : BitVec 32 := Scalar.muli v44 c4_i32_36
  let c4_i32_60 : BitVec 32 := 4#32
  let v72 : BitVec 32 := Scalar.addi v45 c4_i32_60
  let c0_i32_61 : BitVec 32 := 0#32
  ![v1.toNat, v72.toNat, 0]
def k0_cond5 (k0_t1 : Fin k0_t1_loop.trips) : BitVec 1 :=
  let c2_i32_12 : BitVec 32 := 2#32
  let c0_i32_4 : BitVec 32 := 0#32
  let c1_i32 : BitVec 32 := 1#32
  let arg14 : BitVec 32 := Scf.iv c0_i32_4 c1_i32 k0_t1
  let v15 : BitVec 32 := Scalar.muli c2_i32_12 arg14
  let c1_i32_35 : BitVec 32 := 1#32
  let v44 : BitVec 32 := Scalar.addi v15 c1_i32_35
  let c0_i32_42 : BitVec 32 := 0#32
  let v54 : BitVec 1 := Scalar.cmpi .sgt v44 c0_i32_42
  let v55 : BitVec 32 := Scalar.extui v54
  let c0_i32_43 : BitVec 32 := 0#32
  let v56 : BitVec 1 := Scalar.cmpi .ne v55 c0_i32_43
  v56

def k0_off15 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_12 : BitVec 32 := 2#32
  let c0_i32_4 : BitVec 32 := 0#32
  let c1_i32 : BitVec 32 := 1#32
  let arg14 : BitVec 32 := Scf.iv c0_i32_4 c1_i32 k0_t1
  let v15 : BitVec 32 := Scalar.muli c2_i32_12 arg14
  let c1_i32_35 : BitVec 32 := 1#32
  let v44 : BitVec 32 := Scalar.addi v15 c1_i32_35
  let c4_i32_36 : BitVec 32 := 4#32
  let v45 : BitVec 32 := Scalar.muli v44 c4_i32_36
  let c4_i32_60 : BitVec 32 := 4#32
  let v72 : BitVec 32 := Scalar.subi v45 c4_i32_60
  let c0_i32_61 : BitVec 32 := 0#32
  let v73 : BitVec 32 := Scalar.addi v72 c0_i32_61
  let c0_i32_62 : BitVec 32 := 0#32
  ![v1.toNat, v73.toNat, 0]
@[reducible] def k0_t4_loop : Scf.Loop 32 :=
  let c0_i32_44 : BitVec 32 := 0#32
  let c512_i32_45 : BitVec 32 := 512#32
  let v57 : BitVec 32 := Scalar.addi c0_i32_44 c512_i32_45
  let c1_i32_46 : BitVec 32 := 1#32
  ⟨c0_i32_44, v57, c1_i32_46⟩
def k0_off16 (k0_t4 : Fin k0_t4_loop.trips) : Fin 1 → Nat :=
  let c0_i32_61 : BitVec 32 := 0#32
  let c0_i32_44 : BitVec 32 := 0#32
  let c1_i32_46 : BitVec 32 := 1#32
  let arg15 : BitVec 32 := Scf.iv c0_i32_44 c1_i32_46 k0_t4
  let c1_i32_60 : BitVec 32 := 1#32
  let v72 : BitVec 32 := Scalar.muli arg15 c1_i32_60
  let v73 : BitVec 32 := Scalar.addi c0_i32_61 v72
  let c16_i32_62 : BitVec 32 := 16#32
  let v74 : BitVec 32 := Scalar.muli v73 c16_i32_62
  let v75 : Index := Scalar.indexCast v74
  ![v75.toNat]

def k0_chk5 (v76 : IVec S16 32) (v77 : IVec S16 32) : Prop :=
  (∀ a x, ((![v77, v76] : Fin 2 → IVec S16 32) a x).toNat < S4x8192.size a)
theorem k0_idx5_inb : ∀ (v76 : IVec S16 32) (v77 : IVec S16 32) (k0_hw5 : k0_chk5 v76 v77), ∀ a x, ((![v77, v76] : Fin 2 → IVec S16 32) a x).toNat < S4x8192.size a := fun v76 v77 k0_hw5 => k0_hw5
def k0_off17 (k0_t4 : Fin k0_t4_loop.trips) : Fin 2 → Nat :=
  let c0_i32_65 : BitVec 32 := 0#32
  let v80 : Index := Scalar.indexCast c0_i32_65
  let c0_i32_61 : BitVec 32 := 0#32
  let c0_i32_44 : BitVec 32 := 0#32
  let c1_i32_46 : BitVec 32 := 1#32
  let arg15 : BitVec 32 := Scf.iv c0_i32_44 c1_i32_46 k0_t4
  let c1_i32_60 : BitVec 32 := 1#32
  let v72 : BitVec 32 := Scalar.muli arg15 c1_i32_60
  let v73 : BitVec 32 := Scalar.addi c0_i32_61 v72
  let c16_i32_64 : BitVec 32 := 16#32
  let v79 : BitVec 32 := Scalar.muli v73 c16_i32_64
  let v81 : Index := Scalar.indexCast v79
  ![0, v81.toNat]

def k0_chk6 (v76 : IVec S16 32) (v83 : IVec S16 32) : Prop :=
  (∀ a x, ((![v83, v76] : Fin 2 → IVec S16 32) a x).toNat < S4x8192.size a)
theorem k0_idx6_inb : ∀ (v76 : IVec S16 32) (v83 : IVec S16 32) (k0_hw6 : k0_chk6 v76 v83), ∀ a x, ((![v83, v76] : Fin 2 → IVec S16 32) a x).toNat < S4x8192.size a := fun v76 v83 k0_hw6 => k0_hw6
def k0_off18 (k0_t4 : Fin k0_t4_loop.trips) : Fin 2 → Nat :=
  let c1_i32_68 : BitVec 32 := 1#32
  let v86 : Index := Scalar.indexCast c1_i32_68
  let c0_i32_61 : BitVec 32 := 0#32
  let c0_i32_44 : BitVec 32 := 0#32
  let c1_i32_46 : BitVec 32 := 1#32
  let arg15 : BitVec 32 := Scf.iv c0_i32_44 c1_i32_46 k0_t4
  let c1_i32_60 : BitVec 32 := 1#32
  let v72 : BitVec 32 := Scalar.muli arg15 c1_i32_60
  let v73 : BitVec 32 := Scalar.addi c0_i32_61 v72
  let c16_i32_67 : BitVec 32 := 16#32
  let v85 : BitVec 32 := Scalar.muli v73 c16_i32_67
  let v87 : Index := Scalar.indexCast v85
  ![1, v87.toNat]
def k0_cond6 (k0_t1 : Fin k0_t1_loop.trips) : BitVec 1 :=
  let c2_i32_12 : BitVec 32 := 2#32
  let c0_i32_4 : BitVec 32 := 0#32
  let c1_i32 : BitVec 32 := 1#32
  let arg14 : BitVec 32 := Scf.iv c0_i32_4 c1_i32 k0_t1
  let v15 : BitVec 32 := Scalar.muli c2_i32_12 arg14
  let c1_i32_35 : BitVec 32 := 1#32
  let v44 : BitVec 32 := Scalar.addi v15 c1_i32_35
  let c0_i32_51 : BitVec 32 := 0#32
  let v63 : BitVec 1 := Scalar.cmpi .sgt v44 c0_i32_51
  let v64 : BitVec 32 := Scalar.extui v63
  let c0_i32_52 : BitVec 32 := 0#32
  let v65 : BitVec 1 := Scalar.cmpi .ne v64 c0_i32_52
  v65

def k0_off19 (i : grid0.Coords) (k0_t1 : Fin k0_t1_loop.trips) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_12 : BitVec 32 := 2#32
  let c0_i32_4 : BitVec 32 := 0#32
  let c1_i32 : BitVec 32 := 1#32
  let arg14 : BitVec 32 := Scf.iv c0_i32_4 c1_i32 k0_t1
  let v15 : BitVec 32 := Scalar.muli c2_i32_12 arg14
  let c1_i32_35 : BitVec 32 := 1#32
  let v44 : BitVec 32 := Scalar.addi v15 c1_i32_35
  let c4_i32_36 : BitVec 32 := 4#32
  let v45 : BitVec 32 := Scalar.muli v44 c4_i32_36
  let c4_i32_60 : BitVec 32 := 4#32
  let v72 : BitVec 32 := Scalar.subi v45 c4_i32_60
  let c2_i32_61 : BitVec 32 := 2#32
  let v73 : BitVec 32 := Scalar.addi v72 c2_i32_61
  let c0_i32_62 : BitVec 32 := 0#32
  ![v1.toNat, v73.toNat, 0]
@[reducible] def k0_t5_loop : Scf.Loop 32 :=
  let c0_i32_53 : BitVec 32 := 0#32
  let c512_i32_54 : BitVec 32 := 512#32
  let v66 : BitVec 32 := Scalar.addi c0_i32_53 c512_i32_54
  let c1_i32_55 : BitVec 32 := 1#32
  ⟨c0_i32_53, v66, c1_i32_55⟩
def k0_off20 (k0_t5 : Fin k0_t5_loop.trips) : Fin 1 → Nat :=
  let c0_i32_61 : BitVec 32 := 0#32
  let c0_i32_53 : BitVec 32 := 0#32
  let c1_i32_55 : BitVec 32 := 1#32
  let arg15 : BitVec 32 := Scf.iv c0_i32_53 c1_i32_55 k0_t5
  let c1_i32_60 : BitVec 32 := 1#32
  let v72 : BitVec 32 := Scalar.muli arg15 c1_i32_60
  let v73 : BitVec 32 := Scalar.addi c0_i32_61 v72
  let c16_i32_62 : BitVec 32 := 16#32
  let v74 : BitVec 32 := Scalar.muli v73 c16_i32_62
  let v75 : Index := Scalar.indexCast v74
  ![v75.toNat]

def k0_chk7 (v76 : IVec S16 32) (v77 : IVec S16 32) : Prop :=
  (∀ a x, ((![v77, v76] : Fin 2 → IVec S16 32) a x).toNat < S4x8192.size a)
theorem k0_idx7_inb : ∀ (v76 : IVec S16 32) (v77 : IVec S16 32) (k0_hw7 : k0_chk7 v76 v77), ∀ a x, ((![v77, v76] : Fin 2 → IVec S16 32) a x).toNat < S4x8192.size a := fun v76 v77 k0_hw7 => k0_hw7
def k0_off21 (k0_t5 : Fin k0_t5_loop.trips) : Fin 2 → Nat :=
  let c0_i32_65 : BitVec 32 := 0#32
  let v80 : Index := Scalar.indexCast c0_i32_65
  let c0_i32_61 : BitVec 32 := 0#32
  let c0_i32_53 : BitVec 32 := 0#32
  let c1_i32_55 : BitVec 32 := 1#32
  let arg15 : BitVec 32 := Scf.iv c0_i32_53 c1_i32_55 k0_t5
  let c1_i32_60 : BitVec 32 := 1#32
  let v72 : BitVec 32 := Scalar.muli arg15 c1_i32_60
  let v73 : BitVec 32 := Scalar.addi c0_i32_61 v72
  let c16_i32_64 : BitVec 32 := 16#32
  let v79 : BitVec 32 := Scalar.muli v73 c16_i32_64
  let v81 : Index := Scalar.indexCast v79
  ![0, v81.toNat]

def k0_chk8 (v76 : IVec S16 32) (v83 : IVec S16 32) : Prop :=
  (∀ a x, ((![v83, v76] : Fin 2 → IVec S16 32) a x).toNat < S4x8192.size a)
theorem k0_idx8_inb : ∀ (v76 : IVec S16 32) (v83 : IVec S16 32) (k0_hw8 : k0_chk8 v76 v83), ∀ a x, ((![v83, v76] : Fin 2 → IVec S16 32) a x).toNat < S4x8192.size a := fun v76 v83 k0_hw8 => k0_hw8
def k0_off22 (k0_t5 : Fin k0_t5_loop.trips) : Fin 2 → Nat :=
  let c1_i32_67 : BitVec 32 := 1#32
  let v86 : Index := Scalar.indexCast c1_i32_67
  let c0_i32_61 : BitVec 32 := 0#32
  let c0_i32_53 : BitVec 32 := 0#32
  let c1_i32_55 : BitVec 32 := 1#32
  let arg15 : BitVec 32 := Scf.iv c0_i32_53 c1_i32_55 k0_t5
  let c1_i32_60 : BitVec 32 := 1#32
  let v72 : BitVec 32 := Scalar.muli arg15 c1_i32_60
  let v73 : BitVec 32 := Scalar.addi c0_i32_61 v72
  let c16_i32_66 : BitVec 32 := 16#32
  let v85 : BitVec 32 := Scalar.muli v73 c16_i32_66
  let v87 : Index := Scalar.indexCast v85
  ![1, v87.toNat]
def k0_off23 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c124_i32 : BitVec 32 := 124#32
  let c0_i32_6 : BitVec 32 := 0#32
  ![v1.toNat, 124, 0]
def k0_off24 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c126_i32 : BitVec 32 := 126#32
  let c0_i32_9 : BitVec 32 := 0#32
  ![v1.toNat, 126, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32x128x8192 : Shape := ⟨3, ![32, 128, 8192]⟩
abbrev S3 : Shape := ⟨1, ![3]⟩
abbrev S_ : Shape := ⟨0, ![]⟩
abbrev S1 : Shape := ⟨1, ![1]⟩
abbrev S2 : Shape := ⟨1, ![2]⟩
abbrev S1x1x1 : Shape := ⟨3, ![1, 1, 1]⟩
abbrev S32x8192x3 : Shape := ⟨3, ![32, 8192, 3]⟩
abbrev S1x1x3 : Shape := ⟨3, ![1, 1, 3]⟩
abbrev S32x8192 : Shape := ⟨2, ![32, 8192]⟩
abbrev S32x1 : Shape := ⟨2, ![32, 1]⟩
abbrev S32 : Shape := ⟨1, ![32]⟩
abbrev S8192 : Shape := ⟨1, ![8192]⟩
abbrev S1x8192 : Shape := ⟨2, ![1, 8192]⟩
abbrev S32x1x8192 : Shape := ⟨3, ![32, 1, 8192]⟩
abbrev S32x128x8192x1 : Shape := ⟨4, ![32, 128, 8192, 1]⟩
abbrev S1x1x1x1 : Shape := ⟨4, ![1, 1, 1, 1]⟩

abbrev nBuf : Space → Nat
  | .hbm => 350
  | .vmem => 0
  | .smem => 0
  | _ => 0

abbrev hbmTy0_0 (i : Nat) : BufTy := match i % 128 with
  | 0 => ⟨S32x128x8192, .f32⟩
  | 1 => ⟨S3, .f32⟩
  | 2 => ⟨S_, .i32⟩
  | 3 => ⟨S_, .i32⟩
  | 4 => ⟨S_, .i32⟩
  | 5 => ⟨S_, .i32⟩
  | 6 => ⟨S1, .i32⟩
  | 7 => ⟨S_, .i32⟩
  | 8 => ⟨S_, .i32⟩
  | 9 => ⟨S_, .i32⟩
  | 10 => ⟨S1, .i32⟩
  | 11 => ⟨S2, .i32⟩
  | 12 => ⟨S3, .f32⟩
  | 13 => ⟨S_, .f32⟩
  | 14 => ⟨S_, .f32⟩
  | 15 => ⟨S_, .f32⟩
  | 16 => ⟨S1x1x1, .f32⟩
  | 17 => ⟨S1x1x1, .f32⟩
  | 18 => ⟨S1, .i32⟩
  | 19 => ⟨S_, .i32⟩
  | 20 => ⟨S1, .i32⟩
  | 21 => ⟨S_, .i32⟩
  | 22 => ⟨S32x8192x3, .i64⟩
  | 23 => ⟨S32x8192x3, .i64⟩
  | 24 => ⟨S32x8192x3, .i64⟩
  | 25 => ⟨S_, .i64⟩
  | 26 => ⟨S32x8192x3, .i64⟩
  | 27 => ⟨S32x8192x3, .i64⟩
  | 28 => ⟨S_, .i64⟩
  | 29 => ⟨S32x8192x3, .i64⟩
  | 30 => ⟨S32x8192x3, .i64⟩
  | 31 => ⟨S_, .i64⟩
  | 32 => ⟨S32x8192x3, .i64⟩
  | 33 => ⟨S32x8192x3, .i64⟩
  | 34 => ⟨S32x8192x3, .i64⟩
  | 35 => ⟨S32x8192x3, .i64⟩
  | 36 => ⟨S_, .i64⟩
  | 37 => ⟨S32x8192x3, .i64⟩
  | 38 => ⟨S32x8192x3, .i64⟩
  | 39 => ⟨S32x8192x3, .i32⟩
  | 40 => ⟨S32x8192x3, .i32⟩
  | 41 => ⟨S_, .i32⟩
  | 42 => ⟨S_, .i32⟩
  | 43 => ⟨S_, .i32⟩
  | 44 => ⟨S32x8192x3, .i32⟩
  | 45 => ⟨S32x8192x3, .i32⟩
  | 46 => ⟨S32x8192x3, .i32⟩
  | 47 => ⟨S32x8192x3, .i32⟩
  | 48 => ⟨S32x8192x3, .i32⟩
  | 49 => ⟨S_, .i32⟩
  | 50 => ⟨S32x8192x3, .i32⟩
  | 51 => ⟨S32x8192x3, .i32⟩
  | 52 => ⟨S_, .i32⟩
  | 53 => ⟨S32x8192x3, .i32⟩
  | 54 => ⟨S32x8192x3, .i32⟩
  | 55 => ⟨S32x8192x3, .i32⟩
  | 56 => ⟨S32x8192x3, .i32⟩
  | 57 => ⟨S32x8192x3, .i32⟩
  | 58 => ⟨S_, .i32⟩
  | 59 => ⟨S32x8192x3, .i32⟩
  | 60 => ⟨S32x8192x3, .i32⟩
  | 61 => ⟨S_, .i32⟩
  | 62 => ⟨S32x8192x3, .i32⟩
  | 63 => ⟨S32x8192x3, .i32⟩
  | 64 => ⟨S32x8192x3, .i32⟩
  | 65 => ⟨S32x8192x3, .i32⟩
  | 66 => ⟨S32x8192x3, .i32⟩
  | 67 => ⟨S_, .i32⟩
  | 68 => ⟨S32x8192x3, .i32⟩
  | 69 => ⟨S32x8192x3, .i32⟩
  | 70 => ⟨S_, .i32⟩
  | 71 => ⟨S32x8192x3, .i32⟩
  | 72 => ⟨S32x8192x3, .i32⟩
  | 73 => ⟨S32x8192x3, .i32⟩
  | 74 => ⟨S32x8192x3, .i32⟩
  | 75 => ⟨S32x8192x3, .i32⟩
  | 76 => ⟨S_, .i32⟩
  | 77 => ⟨S32x8192x3, .i32⟩
  | 78 => ⟨S32x8192x3, .i32⟩
  | 79 => ⟨S_, .i32⟩
  | 80 => ⟨S32x8192x3, .i32⟩
  | 81 => ⟨S32x8192x3, .i32⟩
  | 82 => ⟨S32x8192x3, .i32⟩
  | 83 => ⟨S32x8192x3, .i32⟩
  | 84 => ⟨S32x8192x3, .i32⟩
  | 85 => ⟨S32x8192x3, .i32⟩
  | 86 => ⟨S32x8192x3, .i32⟩
  | 87 => ⟨S32x8192x3, .i32⟩
  | 88 => ⟨S_, .i32⟩
  | 89 => ⟨S32x8192x3, .i32⟩
  | 90 => ⟨S32x8192x3, .i32⟩
  | 91 => ⟨S32x8192x3, .i32⟩
  | 92 => ⟨S_, .i32⟩
  | 93 => ⟨S32x8192x3, .i32⟩
  | 94 => ⟨S32x8192x3, .i32⟩
  | 95 => ⟨S_, .i32⟩
  | 96 => ⟨S32x8192x3, .i32⟩
  | 97 => ⟨S32x8192x3, .i32⟩
  | 98 => ⟨S32x8192x3, .i32⟩
  | 99 => ⟨S32x8192x3, .i32⟩
  | 100 => ⟨S32x8192x3, .i32⟩
  | 101 => ⟨S_, .i32⟩
  | 102 => ⟨S32x8192x3, .i32⟩
  | 103 => ⟨S32x8192x3, .i32⟩
  | 104 => ⟨S_, .i32⟩
  | 105 => ⟨S32x8192x3, .i32⟩
  | 106 => ⟨S32x8192x3, .i32⟩
  | 107 => ⟨S32x8192x3, .i32⟩
  | 108 => ⟨S32x8192x3, .i32⟩
  | 109 => ⟨S32x8192x3, .i32⟩
  | 110 => ⟨S_, .i32⟩
  | 111 => ⟨S32x8192x3, .i32⟩
  | 112 => ⟨S32x8192x3, .i32⟩
  | 113 => ⟨S_, .i32⟩
  | 114 => ⟨S32x8192x3, .i32⟩
  | 115 => ⟨S32x8192x3, .i32⟩
  | 116 => ⟨S32x8192x3, .i32⟩
  | 117 => ⟨S32x8192x3, .i32⟩
  | 118 => ⟨S32x8192x3, .i32⟩
  | 119 => ⟨S_, .i32⟩
  | 120 => ⟨S32x8192x3, .i32⟩
  | 121 => ⟨S32x8192x3, .i32⟩
  | 122 => ⟨S_, .i32⟩
  | 123 => ⟨S32x8192x3, .i32⟩
  | 124 => ⟨S32x8192x3, .i32⟩
  | 125 => ⟨S32x8192x3, .i32⟩
  | 126 => ⟨S32x8192x3, .i32⟩
  | 127 => ⟨S32x8192x3, .i32⟩
  | _ => ⟨S32x128x8192, .f32⟩

abbrev hbmTy0_1 (i : Nat) : BufTy := match i % 128 with
  | 0 => ⟨S32x8192x3, .i32⟩
  | 1 => ⟨S32x8192x3, .i32⟩
  | 2 => ⟨S32x8192x3, .i32⟩
  | 3 => ⟨S_, .i32⟩
  | 4 => ⟨S32x8192x3, .i32⟩
  | 5 => ⟨S32x8192x3, .i32⟩
  | 6 => ⟨S32x8192x3, .i32⟩
  | 7 => ⟨S_, .i32⟩
  | 8 => ⟨S32x8192x3, .i32⟩
  | 9 => ⟨S32x8192x3, .i32⟩
  | 10 => ⟨S_, .i32⟩
  | 11 => ⟨S32x8192x3, .i32⟩
  | 12 => ⟨S32x8192x3, .i32⟩
  | 13 => ⟨S32x8192x3, .i32⟩
  | 14 => ⟨S32x8192x3, .i32⟩
  | 15 => ⟨S32x8192x3, .i32⟩
  | 16 => ⟨S_, .i32⟩
  | 17 => ⟨S32x8192x3, .i32⟩
  | 18 => ⟨S32x8192x3, .i32⟩
  | 19 => ⟨S_, .i32⟩
  | 20 => ⟨S32x8192x3, .i32⟩
  | 21 => ⟨S32x8192x3, .i32⟩
  | 22 => ⟨S32x8192x3, .i32⟩
  | 23 => ⟨S32x8192x3, .i32⟩
  | 24 => ⟨S32x8192x3, .i32⟩
  | 25 => ⟨S_, .i32⟩
  | 26 => ⟨S32x8192x3, .i32⟩
  | 27 => ⟨S32x8192x3, .i32⟩
  | 28 => ⟨S_, .i32⟩
  | 29 => ⟨S32x8192x3, .i32⟩
  | 30 => ⟨S32x8192x3, .i32⟩
  | 31 => ⟨S32x8192x3, .i32⟩
  | 32 => ⟨S32x8192x3, .i32⟩
  | 33 => ⟨S32x8192x3, .i32⟩
  | 34 => ⟨S_, .i32⟩
  | 35 => ⟨S32x8192x3, .i32⟩
  | 36 => ⟨S32x8192x3, .i32⟩
  | 37 => ⟨S_, .i32⟩
  | 38 => ⟨S32x8192x3, .i32⟩
  | 39 => ⟨S32x8192x3, .i32⟩
  | 40 => ⟨S32x8192x3, .i32⟩
  | 41 => ⟨S32x8192x3, .i32⟩
  | 42 => ⟨S32x8192x3, .i32⟩
  | 43 => ⟨S32x8192x3, .i32⟩
  | 44 => ⟨S32x8192x3, .i32⟩
  | 45 => ⟨S32x8192x3, .i32⟩
  | 46 => ⟨S_, .i32⟩
  | 47 => ⟨S32x8192x3, .i32⟩
  | 48 => ⟨S32x8192x3, .i32⟩
  | 49 => ⟨S32x8192x3, .i32⟩
  | 50 => ⟨S_, .i32⟩
  | 51 => ⟨S32x8192x3, .i32⟩
  | 52 => ⟨S32x8192x3, .i32⟩
  | 53 => ⟨S_, .i32⟩
  | 54 => ⟨S32x8192x3, .i32⟩
  | 55 => ⟨S32x8192x3, .i32⟩
  | 56 => ⟨S32x8192x3, .i32⟩
  | 57 => ⟨S32x8192x3, .i32⟩
  | 58 => ⟨S32x8192x3, .i32⟩
  | 59 => ⟨S_, .i32⟩
  | 60 => ⟨S32x8192x3, .i32⟩
  | 61 => ⟨S32x8192x3, .i32⟩
  | 62 => ⟨S_, .i32⟩
  | 63 => ⟨S32x8192x3, .i32⟩
  | 64 => ⟨S32x8192x3, .i32⟩
  | 65 => ⟨S32x8192x3, .i32⟩
  | 66 => ⟨S32x8192x3, .i32⟩
  | 67 => ⟨S32x8192x3, .i32⟩
  | 68 => ⟨S_, .i32⟩
  | 69 => ⟨S32x8192x3, .i32⟩
  | 70 => ⟨S32x8192x3, .i32⟩
  | 71 => ⟨S_, .i32⟩
  | 72 => ⟨S32x8192x3, .i32⟩
  | 73 => ⟨S32x8192x3, .i32⟩
  | 74 => ⟨S32x8192x3, .i32⟩
  | 75 => ⟨S32x8192x3, .i32⟩
  | 76 => ⟨S32x8192x3, .i32⟩
  | 77 => ⟨S_, .i32⟩
  | 78 => ⟨S32x8192x3, .i32⟩
  | 79 => ⟨S32x8192x3, .i32⟩
  | 80 => ⟨S_, .i32⟩
  | 81 => ⟨S32x8192x3, .i32⟩
  | 82 => ⟨S32x8192x3, .i32⟩
  | 83 => ⟨S32x8192x3, .i32⟩
  | 84 => ⟨S32x8192x3, .i32⟩
  | 85 => ⟨S32x8192x3, .i32⟩
  | 86 => ⟨S32x8192x3, .i32⟩
  | 87 => ⟨S32x8192x3, .i32⟩
  | 88 => ⟨S32x8192x3, .i32⟩
  | 89 => ⟨S_, .i32⟩
  | 90 => ⟨S32x8192x3, .i32⟩
  | 91 => ⟨S32x8192x3, .i32⟩
  | 92 => ⟨S32x8192x3, .i32⟩
  | 93 => ⟨S_, .i32⟩
  | 94 => ⟨S32x8192x3, .i32⟩
  | 95 => ⟨S32x8192x3, .i32⟩
  | 96 => ⟨S_, .i32⟩
  | 97 => ⟨S32x8192x3, .i32⟩
  | 98 => ⟨S32x8192x3, .i32⟩
  | 99 => ⟨S32x8192x3, .i32⟩
  | 100 => ⟨S32x8192x3, .i32⟩
  | 101 => ⟨S32x8192x3, .i32⟩
  | 102 => ⟨S_, .i32⟩
  | 103 => ⟨S32x8192x3, .i32⟩
  | 104 => ⟨S32x8192x3, .i32⟩
  | 105 => ⟨S_, .i32⟩
  | 106 => ⟨S32x8192x3, .i32⟩
  | 107 => ⟨S32x8192x3, .i32⟩
  | 108 => ⟨S32x8192x3, .i32⟩
  | 109 => ⟨S32x8192x3, .i32⟩
  | 110 => ⟨S32x8192x3, .i32⟩
  | 111 => ⟨S_, .i32⟩
  | 112 => ⟨S32x8192x3, .i32⟩
  | 113 => ⟨S32x8192x3, .i32⟩
  | 114 => ⟨S_, .i32⟩
  | 115 => ⟨S32x8192x3, .i32⟩
  | 116 => ⟨S32x8192x3, .i32⟩
  | 117 => ⟨S32x8192x3, .i32⟩
  | 118 => ⟨S32x8192x3, .i32⟩
  | 119 => ⟨S32x8192x3, .i32⟩
  | 120 => ⟨S_, .i32⟩
  | 121 => ⟨S32x8192x3, .i32⟩
  | 122 => ⟨S32x8192x3, .i32⟩
  | 123 => ⟨S_, .i32⟩
  | 124 => ⟨S32x8192x3, .i32⟩
  | 125 => ⟨S32x8192x3, .i32⟩
  | 126 => ⟨S32x8192x3, .i32⟩
  | 127 => ⟨S32x8192x3, .i32⟩
  | _ => ⟨S32x128x8192, .f32⟩

abbrev hbmTy0_2 (i : Nat) : BufTy := match i % 128 with
  | 0 => ⟨S32x8192x3, .i32⟩
  | 1 => ⟨S32x8192x3, .i32⟩
  | 2 => ⟨S32x8192x3, .i32⟩
  | 3 => ⟨S32x8192x3, .i32⟩
  | 4 => ⟨S_, .i32⟩
  | 5 => ⟨S32x8192x3, .i32⟩
  | 6 => ⟨S32x8192x3, .i32⟩
  | 7 => ⟨S32x8192x3, .i32⟩
  | 8 => ⟨S_, .i32⟩
  | 9 => ⟨S32x8192x3, .i32⟩
  | 10 => ⟨S32x8192x3, .i32⟩
  | 11 => ⟨S_, .i32⟩
  | 12 => ⟨S32x8192x3, .i32⟩
  | 13 => ⟨S32x8192x3, .i32⟩
  | 14 => ⟨S32x8192x3, .f32⟩
  | 15 => ⟨S_, .f32⟩
  | 16 => ⟨S32x8192x3, .f32⟩
  | 17 => ⟨S32x8192x3, .f32⟩
  | 18 => ⟨S1x1x1, .f32⟩
  | 19 => ⟨S32x8192x3, .f32⟩
  | 20 => ⟨S32x8192x3, .f32⟩
  | 21 => ⟨S32x8192x3, .f32⟩
  | 22 => ⟨S32x8192x3, .f32⟩
  | 23 => ⟨S32x8192x3, .f32⟩
  | 24 => ⟨S32x8192x3, .f32⟩
  | 25 => ⟨S32x8192x3, .f32⟩
  | 26 => ⟨S32x8192x3, .f32⟩
  | 27 => ⟨S32x8192x3, .f32⟩
  | 28 => ⟨S32x8192x3, .f32⟩
  | 29 => ⟨S1x1x3, .f32⟩
  | 30 => ⟨S32x8192x3, .f32⟩
  | 31 => ⟨S32x8192x3, .f32⟩
  | 32 => ⟨S32x8192x3, .i32⟩
  | 33 => ⟨S_, .f32⟩
  | 34 => ⟨S_, .i32⟩
  | 35 => ⟨S32x8192, .f32⟩
  | 36 => ⟨S32x8192, .i32⟩
  | 37 => ⟨S_, .i32⟩
  | 38 => ⟨S32x8192, .i32⟩
  | 39 => ⟨S32x8192, .i32⟩
  | 40 => ⟨S32x1, .i32⟩
  | 41 => ⟨S32, .i32⟩
  | 42 => ⟨S_, .i32⟩
  | 43 => ⟨S_, .i32⟩
  | 44 => ⟨S_, .i32⟩
  | 45 => ⟨S32, .i32⟩
  | 46 => ⟨S32, .i32⟩
  | 47 => ⟨S_, .i32⟩
  | 48 => ⟨S32, .i32⟩
  | 49 => ⟨S32, .i32⟩
  | 50 => ⟨S_, .i32⟩
  | 51 => ⟨S1, .i32⟩
  | 52 => ⟨S32x8192, .i32⟩
  | 53 => ⟨S32x1, .i32⟩
  | 54 => ⟨S32, .i32⟩
  | 55 => ⟨S_, .i32⟩
  | 56 => ⟨S_, .i32⟩
  | 57 => ⟨S_, .i32⟩
  | 58 => ⟨S32, .i32⟩
  | 59 => ⟨S32, .i32⟩
  | 60 => ⟨S_, .i32⟩
  | 61 => ⟨S32, .i32⟩
  | 62 => ⟨S32, .i32⟩
  | 63 => ⟨S_, .i32⟩
  | 64 => ⟨S1, .i32⟩
  | 65 => ⟨S32x8192, .i32⟩
  | 66 => ⟨S8192, .i32⟩
  | 67 => ⟨S1x8192, .i32⟩
  | 68 => ⟨S32x8192, .i32⟩
  | 69 => ⟨S32x8192, .i32⟩
  | 70 => ⟨S32x1x8192, .i32⟩
  | 71 => ⟨S32x128x8192, .i32⟩
  | 72 => ⟨S_, .i32⟩
  | 73 => ⟨S32x128x8192, .i32⟩
  | 74 => ⟨S32x128x8192, .i1⟩
  | 75 => ⟨S_, .i32⟩
  | 76 => ⟨S32x128x8192, .i32⟩
  | 77 => ⟨S32x128x8192, .i32⟩
  | 78 => ⟨S32x128x8192, .i32⟩
  | 79 => ⟨S32x128x8192x1, .i32⟩
  | 80 => ⟨S1, .i32⟩
  | 81 => ⟨S_, .i32⟩
  | 82 => ⟨S32x128x8192x1, .i32⟩
  | 83 => ⟨S32x128x8192x1, .i1⟩
  | 84 => ⟨S1x1x1x1, .i32⟩
  | 85 => ⟨S32x128x8192x1, .i32⟩
  | 86 => ⟨S32x128x8192x1, .i1⟩
  | 87 => ⟨S32x128x8192x1, .i1⟩
  | 88 => ⟨S_, .i1⟩
  | 89 => ⟨S32x128x8192, .i1⟩
  | 90 => ⟨S32x128x8192, .f32⟩
  | 91 => ⟨S_, .f32⟩
  | 92 => ⟨S32x128x8192, .f32⟩
  | 93 => ⟨S32x128x8192, .f32⟩
  | _ => ⟨S32x128x8192, .f32⟩

abbrev hbmTy (i : Nat) : BufTy := match i / 128 with
  | 0 => hbmTy0_0 i
  | 1 => hbmTy0_1 i
  | 2 => hbmTy0_2 i
  | _ => ⟨S32x128x8192, .f32⟩

abbrev bufTy : (tb : Table) → Fin (tcTables nBuf tb) → BufTy
  | .hbm, ⟨i, _⟩ => hbmTy i
  | _, _ => ⟨S32x128x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_cst : Ref sig .tc := ⟨.hbm, 13, rfl⟩
abbrev main_call0_cst_0 : Ref sig .tc := ⟨.hbm, 14, rfl⟩
abbrev main_call0_call0_v0 : Ref sig .tc := ⟨.hbm, 15, rfl⟩
abbrev main_call0_call0_v1 : Ref sig .tc := ⟨.hbm, 16, rfl⟩
abbrev main_call0_call0_v2 : Ref sig .tc := ⟨.hbm, 17, rfl⟩
abbrev main_call0_call0_v3 : Ref sig .tc := ⟨.hbm, 18, rfl⟩
abbrev main_call0_call0_v4 : Ref sig .tc := ⟨.hbm, 19, rfl⟩
abbrev main_call0_call0_v5 : Ref sig .tc := ⟨.hbm, 20, rfl⟩
abbrev main_call0_call0_v6 : Ref sig .tc := ⟨.hbm, 21, rfl⟩
abbrev main_call0_call0_v7 : Ref sig .tc := ⟨.hbm, 22, rfl⟩
abbrev main_call0_call0_v8 : Ref sig .tc := ⟨.hbm, 23, rfl⟩
abbrev main_call0_call0_v9 : Ref sig .tc := ⟨.hbm, 24, rfl⟩
abbrev main_call0_call0_c : Ref sig .tc := ⟨.hbm, 25, rfl⟩
abbrev main_call0_call0_v10 : Ref sig .tc := ⟨.hbm, 26, rfl⟩
abbrev main_call0_call0_v11 : Ref sig .tc := ⟨.hbm, 27, rfl⟩
abbrev main_call0_call0_c_0 : Ref sig .tc := ⟨.hbm, 28, rfl⟩
abbrev main_call0_call0_v12 : Ref sig .tc := ⟨.hbm, 29, rfl⟩
abbrev main_call0_call0_v13 : Ref sig .tc := ⟨.hbm, 30, rfl⟩
abbrev main_call0_call0_c_1 : Ref sig .tc := ⟨.hbm, 31, rfl⟩
abbrev main_call0_call0_v14 : Ref sig .tc := ⟨.hbm, 32, rfl⟩
abbrev main_call0_call0_v15 : Ref sig .tc := ⟨.hbm, 33, rfl⟩
abbrev main_call0_call0_v16 : Ref sig .tc := ⟨.hbm, 34, rfl⟩
abbrev main_call0_call0_v17 : Ref sig .tc := ⟨.hbm, 35, rfl⟩
abbrev main_call0_call0_c_2 : Ref sig .tc := ⟨.hbm, 36, rfl⟩
abbrev main_call0_call0_v18 : Ref sig .tc := ⟨.hbm, 37, rfl⟩
abbrev main_call0_call0_v19 : Ref sig .tc := ⟨.hbm, 38, rfl⟩
abbrev main_call0_call0_v20 : Ref sig .tc := ⟨.hbm, 39, rfl⟩
abbrev main_call0_call0_v21 : Ref sig .tc := ⟨.hbm, 40, rfl⟩
abbrev main_call0_call0_call0_v0 : Ref sig .tc := ⟨.hbm, 41, rfl⟩
abbrev main_call0_call0_call0_c : Ref sig .tc := ⟨.hbm, 42, rfl⟩
abbrev main_call0_call0_call0_v1 : Ref sig .tc := ⟨.hbm, 43, rfl⟩
abbrev main_call0_call0_call0_v2 : Ref sig .tc := ⟨.hbm, 44, rfl⟩
abbrev main_call0_call0_call0_v3 : Ref sig .tc := ⟨.hbm, 45, rfl⟩
abbrev main_call0_call0_call0_v4 : Ref sig .tc := ⟨.hbm, 46, rfl⟩
abbrev main_call0_call0_call0_v5 : Ref sig .tc := ⟨.hbm, 47, rfl⟩
abbrev main_call0_call0_call0_v6 : Ref sig .tc := ⟨.hbm, 48, rfl⟩
abbrev main_call0_call0_call0_c_0 : Ref sig .tc := ⟨.hbm, 49, rfl⟩
abbrev main_call0_call0_call0_v7 : Ref sig .tc := ⟨.hbm, 50, rfl⟩
abbrev main_call0_call0_call0_v8 : Ref sig .tc := ⟨.hbm, 51, rfl⟩
abbrev main_call0_call0_call0_c_1 : Ref sig .tc := ⟨.hbm, 52, rfl⟩
abbrev main_call0_call0_call0_v9 : Ref sig .tc := ⟨.hbm, 53, rfl⟩
abbrev main_call0_call0_call0_v10 : Ref sig .tc := ⟨.hbm, 54, rfl⟩
abbrev main_call0_call0_call0_v11 : Ref sig .tc := ⟨.hbm, 55, rfl⟩
abbrev main_call0_call0_call0_v12 : Ref sig .tc := ⟨.hbm, 56, rfl⟩
abbrev main_call0_call0_call0_v13 : Ref sig .tc := ⟨.hbm, 57, rfl⟩
abbrev main_call0_call0_call0_c_2 : Ref sig .tc := ⟨.hbm, 58, rfl⟩
abbrev main_call0_call0_call0_v14 : Ref sig .tc := ⟨.hbm, 59, rfl⟩
abbrev main_call0_call0_call0_v15 : Ref sig .tc := ⟨.hbm, 60, rfl⟩
abbrev main_call0_call0_call0_c_3 : Ref sig .tc := ⟨.hbm, 61, rfl⟩
abbrev main_call0_call0_call0_v16 : Ref sig .tc := ⟨.hbm, 62, rfl⟩
abbrev main_call0_call0_call0_v17 : Ref sig .tc := ⟨.hbm, 63, rfl⟩
abbrev main_call0_call0_call0_v18 : Ref sig .tc := ⟨.hbm, 64, rfl⟩
abbrev main_call0_call0_call0_v19 : Ref sig .tc := ⟨.hbm, 65, rfl⟩
abbrev main_call0_call0_call0_v20 : Ref sig .tc := ⟨.hbm, 66, rfl⟩
abbrev main_call0_call0_call0_c_4 : Ref sig .tc := ⟨.hbm, 67, rfl⟩
abbrev main_call0_call0_call0_v21 : Ref sig .tc := ⟨.hbm, 68, rfl⟩
abbrev main_call0_call0_call0_v22 : Ref sig .tc := ⟨.hbm, 69, rfl⟩
abbrev main_call0_call0_call0_c_5 : Ref sig .tc := ⟨.hbm, 70, rfl⟩
abbrev main_call0_call0_call0_v23 : Ref sig .tc := ⟨.hbm, 71, rfl⟩
abbrev main_call0_call0_call0_v24 : Ref sig .tc := ⟨.hbm, 72, rfl⟩
abbrev main_call0_call0_call0_v25 : Ref sig .tc := ⟨.hbm, 73, rfl⟩
abbrev main_call0_call0_call0_v26 : Ref sig .tc := ⟨.hbm, 74, rfl⟩
abbrev main_call0_call0_call0_v27 : Ref sig .tc := ⟨.hbm, 75, rfl⟩
abbrev main_call0_call0_call0_c_6 : Ref sig .tc := ⟨.hbm, 76, rfl⟩
abbrev main_call0_call0_call0_v28 : Ref sig .tc := ⟨.hbm, 77, rfl⟩
abbrev main_call0_call0_call0_v29 : Ref sig .tc := ⟨.hbm, 78, rfl⟩
abbrev main_call0_call0_call0_c_7 : Ref sig .tc := ⟨.hbm, 79, rfl⟩
abbrev main_call0_call0_call0_v30 : Ref sig .tc := ⟨.hbm, 80, rfl⟩
abbrev main_call0_call0_call0_v31 : Ref sig .tc := ⟨.hbm, 81, rfl⟩
abbrev main_call0_call0_call0_v32 : Ref sig .tc := ⟨.hbm, 82, rfl⟩
abbrev main_call0_call0_call0_v33 : Ref sig .tc := ⟨.hbm, 83, rfl⟩
abbrev main_call0_call0_call0_v34 : Ref sig .tc := ⟨.hbm, 84, rfl⟩
abbrev main_call0_call0_call0_v35 : Ref sig .tc := ⟨.hbm, 85, rfl⟩
abbrev main_call0_call0_call0_v36 : Ref sig .tc := ⟨.hbm, 86, rfl⟩
abbrev main_call0_call0_call0_v37 : Ref sig .tc := ⟨.hbm, 87, rfl⟩
abbrev main_call0_call0_call0_c_8 : Ref sig .tc := ⟨.hbm, 88, rfl⟩
abbrev main_call0_call0_call0_v38 : Ref sig .tc := ⟨.hbm, 89, rfl⟩
abbrev main_call0_call0_call0_v39 : Ref sig .tc := ⟨.hbm, 90, rfl⟩
abbrev main_call0_call0_call0_v40 : Ref sig .tc := ⟨.hbm, 91, rfl⟩
abbrev main_call0_call0_call0_c_9 : Ref sig .tc := ⟨.hbm, 92, rfl⟩
abbrev main_call0_call0_call0_v41 : Ref sig .tc := ⟨.hbm, 93, rfl⟩
abbrev main_call0_call0_call0_v42 : Ref sig .tc := ⟨.hbm, 94, rfl⟩
abbrev main_call0_call0_call0_c_10 : Ref sig .tc := ⟨.hbm, 95, rfl⟩
abbrev main_call0_call0_call0_v43 : Ref sig .tc := ⟨.hbm, 96, rfl⟩
abbrev main_call0_call0_call0_v44 : Ref sig .tc := ⟨.hbm, 97, rfl⟩
abbrev main_call0_call0_call0_v45 : Ref sig .tc := ⟨.hbm, 98, rfl⟩
abbrev main_call0_call0_call0_v46 : Ref sig .tc := ⟨.hbm, 99, rfl⟩
abbrev main_call0_call0_call0_v47 : Ref sig .tc := ⟨.hbm, 100, rfl⟩
abbrev main_call0_call0_call0_c_11 : Ref sig .tc := ⟨.hbm, 101, rfl⟩
abbrev main_call0_call0_call0_v48 : Ref sig .tc := ⟨.hbm, 102, rfl⟩
abbrev main_call0_call0_call0_v49 : Ref sig .tc := ⟨.hbm, 103, rfl⟩
abbrev main_call0_call0_call0_c_12 : Ref sig .tc := ⟨.hbm, 104, rfl⟩
abbrev main_call0_call0_call0_v50 : Ref sig .tc := ⟨.hbm, 105, rfl⟩
abbrev main_call0_call0_call0_v51 : Ref sig .tc := ⟨.hbm, 106, rfl⟩
abbrev main_call0_call0_call0_v52 : Ref sig .tc := ⟨.hbm, 107, rfl⟩
abbrev main_call0_call0_call0_v53 : Ref sig .tc := ⟨.hbm, 108, rfl⟩
abbrev main_call0_call0_call0_v54 : Ref sig .tc := ⟨.hbm, 109, rfl⟩
abbrev main_call0_call0_call0_c_13 : Ref sig .tc := ⟨.hbm, 110, rfl⟩
abbrev main_call0_call0_call0_v55 : Ref sig .tc := ⟨.hbm, 111, rfl⟩
abbrev main_call0_call0_call0_v56 : Ref sig .tc := ⟨.hbm, 112, rfl⟩
abbrev main_call0_call0_call0_c_14 : Ref sig .tc := ⟨.hbm, 113, rfl⟩
abbrev main_call0_call0_call0_v57 : Ref sig .tc := ⟨.hbm, 114, rfl⟩
abbrev main_call0_call0_call0_v58 : Ref sig .tc := ⟨.hbm, 115, rfl⟩
abbrev main_call0_call0_call0_v59 : Ref sig .tc := ⟨.hbm, 116, rfl⟩
abbrev main_call0_call0_call0_v60 : Ref sig .tc := ⟨.hbm, 117, rfl⟩
abbrev main_call0_call0_call0_v61 : Ref sig .tc := ⟨.hbm, 118, rfl⟩
abbrev main_call0_call0_call0_c_15 : Ref sig .tc := ⟨.hbm, 119, rfl⟩
abbrev main_call0_call0_call0_v62 : Ref sig .tc := ⟨.hbm, 120, rfl⟩
abbrev main_call0_call0_call0_v63 : Ref sig .tc := ⟨.hbm, 121, rfl⟩
abbrev main_call0_call0_call0_c_16 : Ref sig .tc := ⟨.hbm, 122, rfl⟩
abbrev main_call0_call0_call0_v64 : Ref sig .tc := ⟨.hbm, 123, rfl⟩
abbrev main_call0_call0_call0_v65 : Ref sig .tc := ⟨.hbm, 124, rfl⟩
abbrev main_call0_call0_call0_v66 : Ref sig .tc := ⟨.hbm, 125, rfl⟩
abbrev main_call0_call0_call0_v67 : Ref sig .tc := ⟨.hbm, 126, rfl⟩
abbrev main_call0_call0_call0_v68 : Ref sig .tc := ⟨.hbm, 127, rfl⟩
abbrev main_call0_call0_call0_v69 : Ref sig .tc := ⟨.hbm, 128, rfl⟩
abbrev main_call0_call0_call0_v70 : Ref sig .tc := ⟨.hbm, 129, rfl⟩
abbrev main_call0_call0_call0_v71 : Ref sig .tc := ⟨.hbm, 130, rfl⟩
abbrev main_call0_call0_call0_c_17 : Ref sig .tc := ⟨.hbm, 131, rfl⟩
abbrev main_call0_call0_call0_v72 : Ref sig .tc := ⟨.hbm, 132, rfl⟩
abbrev main_call0_call0_call0_v73 : Ref sig .tc := ⟨.hbm, 133, rfl⟩
abbrev main_call0_call0_call0_v74 : Ref sig .tc := ⟨.hbm, 134, rfl⟩
abbrev main_call0_call0_call0_c_18 : Ref sig .tc := ⟨.hbm, 135, rfl⟩
abbrev main_call0_call0_call0_v75 : Ref sig .tc := ⟨.hbm, 136, rfl⟩
abbrev main_call0_call0_call0_v76 : Ref sig .tc := ⟨.hbm, 137, rfl⟩
abbrev main_call0_call0_call0_c_19 : Ref sig .tc := ⟨.hbm, 138, rfl⟩
abbrev main_call0_call0_call0_v77 : Ref sig .tc := ⟨.hbm, 139, rfl⟩
abbrev main_call0_call0_call0_v78 : Ref sig .tc := ⟨.hbm, 140, rfl⟩
abbrev main_call0_call0_call0_v79 : Ref sig .tc := ⟨.hbm, 141, rfl⟩
abbrev main_call0_call0_call0_v80 : Ref sig .tc := ⟨.hbm, 142, rfl⟩
abbrev main_call0_call0_call0_v81 : Ref sig .tc := ⟨.hbm, 143, rfl⟩
abbrev main_call0_call0_call0_c_20 : Ref sig .tc := ⟨.hbm, 144, rfl⟩
abbrev main_call0_call0_call0_v82 : Ref sig .tc := ⟨.hbm, 145, rfl⟩
abbrev main_call0_call0_call0_v83 : Ref sig .tc := ⟨.hbm, 146, rfl⟩
abbrev main_call0_call0_call0_c_21 : Ref sig .tc := ⟨.hbm, 147, rfl⟩
abbrev main_call0_call0_call0_v84 : Ref sig .tc := ⟨.hbm, 148, rfl⟩
abbrev main_call0_call0_call0_v85 : Ref sig .tc := ⟨.hbm, 149, rfl⟩
abbrev main_call0_call0_call0_v86 : Ref sig .tc := ⟨.hbm, 150, rfl⟩
abbrev main_call0_call0_call0_v87 : Ref sig .tc := ⟨.hbm, 151, rfl⟩
abbrev main_call0_call0_call0_v88 : Ref sig .tc := ⟨.hbm, 152, rfl⟩
abbrev main_call0_call0_call0_c_22 : Ref sig .tc := ⟨.hbm, 153, rfl⟩
abbrev main_call0_call0_call0_v89 : Ref sig .tc := ⟨.hbm, 154, rfl⟩
abbrev main_call0_call0_call0_v90 : Ref sig .tc := ⟨.hbm, 155, rfl⟩
abbrev main_call0_call0_call0_c_23 : Ref sig .tc := ⟨.hbm, 156, rfl⟩
abbrev main_call0_call0_call0_v91 : Ref sig .tc := ⟨.hbm, 157, rfl⟩
abbrev main_call0_call0_call0_v92 : Ref sig .tc := ⟨.hbm, 158, rfl⟩
abbrev main_call0_call0_call0_v93 : Ref sig .tc := ⟨.hbm, 159, rfl⟩
abbrev main_call0_call0_call0_v94 : Ref sig .tc := ⟨.hbm, 160, rfl⟩
abbrev main_call0_call0_call0_v95 : Ref sig .tc := ⟨.hbm, 161, rfl⟩
abbrev main_call0_call0_call0_c_24 : Ref sig .tc := ⟨.hbm, 162, rfl⟩
abbrev main_call0_call0_call0_v96 : Ref sig .tc := ⟨.hbm, 163, rfl⟩
abbrev main_call0_call0_call0_v97 : Ref sig .tc := ⟨.hbm, 164, rfl⟩
abbrev main_call0_call0_call0_c_25 : Ref sig .tc := ⟨.hbm, 165, rfl⟩
abbrev main_call0_call0_call0_v98 : Ref sig .tc := ⟨.hbm, 166, rfl⟩
abbrev main_call0_call0_call0_v99 : Ref sig .tc := ⟨.hbm, 167, rfl⟩
abbrev main_call0_call0_call0_v100 : Ref sig .tc := ⟨.hbm, 168, rfl⟩
abbrev main_call0_call0_call0_v101 : Ref sig .tc := ⟨.hbm, 169, rfl⟩
abbrev main_call0_call0_call0_v102 : Ref sig .tc := ⟨.hbm, 170, rfl⟩
abbrev main_call0_call0_call0_v103 : Ref sig .tc := ⟨.hbm, 171, rfl⟩
abbrev main_call0_call0_call0_v104 : Ref sig .tc := ⟨.hbm, 172, rfl⟩
abbrev main_call0_call0_call0_v105 : Ref sig .tc := ⟨.hbm, 173, rfl⟩
abbrev main_call0_call0_call0_c_26 : Ref sig .tc := ⟨.hbm, 174, rfl⟩
abbrev main_call0_call0_call0_v106 : Ref sig .tc := ⟨.hbm, 175, rfl⟩
abbrev main_call0_call0_call0_v107 : Ref sig .tc := ⟨.hbm, 176, rfl⟩
abbrev main_call0_call0_call0_v108 : Ref sig .tc := ⟨.hbm, 177, rfl⟩
abbrev main_call0_call0_call0_c_27 : Ref sig .tc := ⟨.hbm, 178, rfl⟩
abbrev main_call0_call0_call0_v109 : Ref sig .tc := ⟨.hbm, 179, rfl⟩
abbrev main_call0_call0_call0_v110 : Ref sig .tc := ⟨.hbm, 180, rfl⟩
abbrev main_call0_call0_call0_c_28 : Ref sig .tc := ⟨.hbm, 181, rfl⟩
abbrev main_call0_call0_call0_v111 : Ref sig .tc := ⟨.hbm, 182, rfl⟩
abbrev main_call0_call0_call0_v112 : Ref sig .tc := ⟨.hbm, 183, rfl⟩
abbrev main_call0_call0_call0_v113 : Ref sig .tc := ⟨.hbm, 184, rfl⟩
abbrev main_call0_call0_call0_v114 : Ref sig .tc := ⟨.hbm, 185, rfl⟩
abbrev main_call0_call0_call0_v115 : Ref sig .tc := ⟨.hbm, 186, rfl⟩
abbrev main_call0_call0_call0_c_29 : Ref sig .tc := ⟨.hbm, 187, rfl⟩
abbrev main_call0_call0_call0_v116 : Ref sig .tc := ⟨.hbm, 188, rfl⟩
abbrev main_call0_call0_call0_v117 : Ref sig .tc := ⟨.hbm, 189, rfl⟩
abbrev main_call0_call0_call0_c_30 : Ref sig .tc := ⟨.hbm, 190, rfl⟩
abbrev main_call0_call0_call0_v118 : Ref sig .tc := ⟨.hbm, 191, rfl⟩
abbrev main_call0_call0_call0_v119 : Ref sig .tc := ⟨.hbm, 192, rfl⟩
abbrev main_call0_call0_call0_v120 : Ref sig .tc := ⟨.hbm, 193, rfl⟩
abbrev main_call0_call0_call0_v121 : Ref sig .tc := ⟨.hbm, 194, rfl⟩
abbrev main_call0_call0_call0_v122 : Ref sig .tc := ⟨.hbm, 195, rfl⟩
abbrev main_call0_call0_call0_c_31 : Ref sig .tc := ⟨.hbm, 196, rfl⟩
abbrev main_call0_call0_call0_v123 : Ref sig .tc := ⟨.hbm, 197, rfl⟩
abbrev main_call0_call0_call0_v124 : Ref sig .tc := ⟨.hbm, 198, rfl⟩
abbrev main_call0_call0_call0_c_32 : Ref sig .tc := ⟨.hbm, 199, rfl⟩
abbrev main_call0_call0_call0_v125 : Ref sig .tc := ⟨.hbm, 200, rfl⟩
abbrev main_call0_call0_call0_v126 : Ref sig .tc := ⟨.hbm, 201, rfl⟩
abbrev main_call0_call0_call0_v127 : Ref sig .tc := ⟨.hbm, 202, rfl⟩
abbrev main_call0_call0_call0_v128 : Ref sig .tc := ⟨.hbm, 203, rfl⟩
abbrev main_call0_call0_call0_v129 : Ref sig .tc := ⟨.hbm, 204, rfl⟩
abbrev main_call0_call0_call0_c_33 : Ref sig .tc := ⟨.hbm, 205, rfl⟩
abbrev main_call0_call0_call0_v130 : Ref sig .tc := ⟨.hbm, 206, rfl⟩
abbrev main_call0_call0_call0_v131 : Ref sig .tc := ⟨.hbm, 207, rfl⟩
abbrev main_call0_call0_call0_c_34 : Ref sig .tc := ⟨.hbm, 208, rfl⟩
abbrev main_call0_call0_call0_v132 : Ref sig .tc := ⟨.hbm, 209, rfl⟩
abbrev main_call0_call0_call0_v133 : Ref sig .tc := ⟨.hbm, 210, rfl⟩
abbrev main_call0_call0_call0_v134 : Ref sig .tc := ⟨.hbm, 211, rfl⟩
abbrev main_call0_call0_call0_v135 : Ref sig .tc := ⟨.hbm, 212, rfl⟩
abbrev main_call0_call0_call0_v136 : Ref sig .tc := ⟨.hbm, 213, rfl⟩
abbrev main_call0_call0_call0_v137 : Ref sig .tc := ⟨.hbm, 214, rfl⟩
abbrev main_call0_call0_call0_v138 : Ref sig .tc := ⟨.hbm, 215, rfl⟩
abbrev main_call0_call0_call0_v139 : Ref sig .tc := ⟨.hbm, 216, rfl⟩
abbrev main_call0_call0_call0_c_35 : Ref sig .tc := ⟨.hbm, 217, rfl⟩
abbrev main_call0_call0_call0_v140 : Ref sig .tc := ⟨.hbm, 218, rfl⟩
abbrev main_call0_call0_call0_v141 : Ref sig .tc := ⟨.hbm, 219, rfl⟩
abbrev main_call0_call0_call0_v142 : Ref sig .tc := ⟨.hbm, 220, rfl⟩
abbrev main_call0_call0_call0_c_36 : Ref sig .tc := ⟨.hbm, 221, rfl⟩
abbrev main_call0_call0_call0_v143 : Ref sig .tc := ⟨.hbm, 222, rfl⟩
abbrev main_call0_call0_call0_v144 : Ref sig .tc := ⟨.hbm, 223, rfl⟩
abbrev main_call0_call0_call0_c_37 : Ref sig .tc := ⟨.hbm, 224, rfl⟩
abbrev main_call0_call0_call0_v145 : Ref sig .tc := ⟨.hbm, 225, rfl⟩
abbrev main_call0_call0_call0_v146 : Ref sig .tc := ⟨.hbm, 226, rfl⟩
abbrev main_call0_call0_call0_v147 : Ref sig .tc := ⟨.hbm, 227, rfl⟩
abbrev main_call0_call0_call0_v148 : Ref sig .tc := ⟨.hbm, 228, rfl⟩
abbrev main_call0_call0_call0_v149 : Ref sig .tc := ⟨.hbm, 229, rfl⟩
abbrev main_call0_call0_call0_c_38 : Ref sig .tc := ⟨.hbm, 230, rfl⟩
abbrev main_call0_call0_call0_v150 : Ref sig .tc := ⟨.hbm, 231, rfl⟩
abbrev main_call0_call0_call0_v151 : Ref sig .tc := ⟨.hbm, 232, rfl⟩
abbrev main_call0_call0_call0_c_39 : Ref sig .tc := ⟨.hbm, 233, rfl⟩
abbrev main_call0_call0_call0_v152 : Ref sig .tc := ⟨.hbm, 234, rfl⟩
abbrev main_call0_call0_call0_v153 : Ref sig .tc := ⟨.hbm, 235, rfl⟩
abbrev main_call0_call0_call0_v154 : Ref sig .tc := ⟨.hbm, 236, rfl⟩
abbrev main_call0_call0_call0_v155 : Ref sig .tc := ⟨.hbm, 237, rfl⟩
abbrev main_call0_call0_call0_v156 : Ref sig .tc := ⟨.hbm, 238, rfl⟩
abbrev main_call0_call0_call0_c_40 : Ref sig .tc := ⟨.hbm, 239, rfl⟩
abbrev main_call0_call0_call0_v157 : Ref sig .tc := ⟨.hbm, 240, rfl⟩
abbrev main_call0_call0_call0_v158 : Ref sig .tc := ⟨.hbm, 241, rfl⟩
abbrev main_call0_call0_call0_c_41 : Ref sig .tc := ⟨.hbm, 242, rfl⟩
abbrev main_call0_call0_call0_v159 : Ref sig .tc := ⟨.hbm, 243, rfl⟩
abbrev main_call0_call0_call0_v160 : Ref sig .tc := ⟨.hbm, 244, rfl⟩
abbrev main_call0_call0_call0_v161 : Ref sig .tc := ⟨.hbm, 245, rfl⟩
abbrev main_call0_call0_call0_v162 : Ref sig .tc := ⟨.hbm, 246, rfl⟩
abbrev main_call0_call0_call0_v163 : Ref sig .tc := ⟨.hbm, 247, rfl⟩
abbrev main_call0_call0_call0_c_42 : Ref sig .tc := ⟨.hbm, 248, rfl⟩
abbrev main_call0_call0_call0_v164 : Ref sig .tc := ⟨.hbm, 249, rfl⟩
abbrev main_call0_call0_call0_v165 : Ref sig .tc := ⟨.hbm, 250, rfl⟩
abbrev main_call0_call0_call0_c_43 : Ref sig .tc := ⟨.hbm, 251, rfl⟩
abbrev main_call0_call0_call0_v166 : Ref sig .tc := ⟨.hbm, 252, rfl⟩
abbrev main_call0_call0_call0_v167 : Ref sig .tc := ⟨.hbm, 253, rfl⟩
abbrev main_call0_call0_call0_v168 : Ref sig .tc := ⟨.hbm, 254, rfl⟩
abbrev main_call0_call0_call0_v169 : Ref sig .tc := ⟨.hbm, 255, rfl⟩
abbrev main_call0_call0_call0_v170 : Ref sig .tc := ⟨.hbm, 256, rfl⟩
abbrev main_call0_call0_v22_0 : Ref sig .tc := ⟨.hbm, 257, rfl⟩
abbrev main_call0_call0_call0_v172 : Ref sig .tc := ⟨.hbm, 258, rfl⟩
abbrev main_call0_call0_call0_v173 : Ref sig .tc := ⟨.hbm, 259, rfl⟩
abbrev main_call0_call0_call0_c_44 : Ref sig .tc := ⟨.hbm, 260, rfl⟩
abbrev main_call0_call0_call0_v174 : Ref sig .tc := ⟨.hbm, 261, rfl⟩
abbrev main_call0_call0_v22_1 : Ref sig .tc := ⟨.hbm, 262, rfl⟩
abbrev main_call0_call0_v23 : Ref sig .tc := ⟨.hbm, 263, rfl⟩
abbrev main_call0_call0_c_3 : Ref sig .tc := ⟨.hbm, 264, rfl⟩
abbrev main_call0_call0_v24 : Ref sig .tc := ⟨.hbm, 265, rfl⟩
abbrev main_call0_call0_v25 : Ref sig .tc := ⟨.hbm, 266, rfl⟩
abbrev main_call0_call0_c_4 : Ref sig .tc := ⟨.hbm, 267, rfl⟩
abbrev main_call0_call0_v26 : Ref sig .tc := ⟨.hbm, 268, rfl⟩
abbrev main_call0_call0_v27 : Ref sig .tc := ⟨.hbm, 269, rfl⟩
abbrev main_call0_call0_v28 : Ref sig .tc := ⟨.hbm, 270, rfl⟩
abbrev main_call0_call0_cst : Ref sig .tc := ⟨.hbm, 271, rfl⟩
abbrev main_call0_call0_v29 : Ref sig .tc := ⟨.hbm, 272, rfl⟩
abbrev main_call0_call0_v30 : Ref sig .tc := ⟨.hbm, 273, rfl⟩
abbrev main_call0_call0_v31 : Ref sig .tc := ⟨.hbm, 274, rfl⟩
abbrev main_call0_call0_v32 : Ref sig .tc := ⟨.hbm, 275, rfl⟩
abbrev main_call0_call0_v33 : Ref sig .tc := ⟨.hbm, 276, rfl⟩
abbrev main_call0_call0_v34 : Ref sig .tc := ⟨.hbm, 277, rfl⟩
abbrev main_call0_call0_v35 : Ref sig .tc := ⟨.hbm, 278, rfl⟩
abbrev main_call0_call0_v36 : Ref sig .tc := ⟨.hbm, 279, rfl⟩
abbrev main_call0_v0 : Ref sig .tc := ⟨.hbm, 280, rfl⟩
abbrev main_call0_v1 : Ref sig .tc := ⟨.hbm, 281, rfl⟩
abbrev main_call0_v2 : Ref sig .tc := ⟨.hbm, 282, rfl⟩
abbrev main_call0_v3 : Ref sig .tc := ⟨.hbm, 283, rfl⟩
abbrev main_v8 : Ref sig .tc := ⟨.hbm, 284, rfl⟩
abbrev main_v9 : Ref sig .tc := ⟨.hbm, 285, rfl⟩
abbrev main_v10 : Ref sig .tc := ⟨.hbm, 286, rfl⟩
abbrev main_v11 : Ref sig .tc := ⟨.hbm, 287, rfl⟩
abbrev main_call1_v0 : Ref sig .tc := ⟨.hbm, 288, rfl⟩
abbrev main_call1_cst : Ref sig .tc := ⟨.hbm, 289, rfl⟩
abbrev main_call1_c : Ref sig .tc := ⟨.hbm, 290, rfl⟩
abbrev main_call1_v1_0 : Ref sig .tc := ⟨.hbm, 291, rfl⟩
abbrev main_v12 : Ref sig .tc := ⟨.hbm, 292, rfl⟩
abbrev main_c_2 : Ref sig .tc := ⟨.hbm, 293, rfl⟩
abbrev main_v13 : Ref sig .tc := ⟨.hbm, 294, rfl⟩
abbrev main_v14 : Ref sig .tc := ⟨.hbm, 295, rfl⟩
abbrev main_v15 : Ref sig .tc := ⟨.hbm, 296, rfl⟩
abbrev main_v16 : Ref sig .tc := ⟨.hbm, 297, rfl⟩
abbrev main_c_3 : Ref sig .tc := ⟨.hbm, 298, rfl⟩
abbrev main_c_4 : Ref sig .tc := ⟨.hbm, 299, rfl⟩
abbrev main_call2_v0 : Ref sig .tc := ⟨.hbm, 300, rfl⟩
abbrev main_call2_v1 : Ref sig .tc := ⟨.hbm, 301, rfl⟩
abbrev main_call2_v2 : Ref sig .tc := ⟨.hbm, 302, rfl⟩
abbrev main_call2_v3 : Ref sig .tc := ⟨.hbm, 303, rfl⟩
abbrev main_call2_v4 : Ref sig .tc := ⟨.hbm, 304, rfl⟩
abbrev main_v17 : Ref sig .tc := ⟨.hbm, 305, rfl⟩
abbrev main_c_5 : Ref sig .tc := ⟨.hbm, 306, rfl⟩
abbrev main_v18 : Ref sig .tc := ⟨.hbm, 307, rfl⟩
abbrev main_v19 : Ref sig .tc := ⟨.hbm, 308, rfl⟩
abbrev main_v20 : Ref sig .tc := ⟨.hbm, 309, rfl⟩
abbrev main_v21 : Ref sig .tc := ⟨.hbm, 310, rfl⟩
abbrev main_c_6 : Ref sig .tc := ⟨.hbm, 311, rfl⟩
abbrev main_c_7 : Ref sig .tc := ⟨.hbm, 312, rfl⟩
abbrev main_call3_v0 : Ref sig .tc := ⟨.hbm, 313, rfl⟩
abbrev main_call3_v1 : Ref sig .tc := ⟨.hbm, 314, rfl⟩
abbrev main_call3_v2 : Ref sig .tc := ⟨.hbm, 315, rfl⟩
abbrev main_call3_v3 : Ref sig .tc := ⟨.hbm, 316, rfl⟩
abbrev main_call3_v4 : Ref sig .tc := ⟨.hbm, 317, rfl⟩
abbrev main_v22 : Ref sig .tc := ⟨.hbm, 318, rfl⟩
abbrev main_c_8 : Ref sig .tc := ⟨.hbm, 319, rfl⟩
abbrev main_v23 : Ref sig .tc := ⟨.hbm, 320, rfl⟩
abbrev main_v24 : Ref sig .tc := ⟨.hbm, 321, rfl⟩
abbrev main_v25 : Ref sig .tc := ⟨.hbm, 322, rfl⟩
abbrev main_v26 : Ref sig .tc := ⟨.hbm, 323, rfl⟩
abbrev main_v27 : Ref sig .tc := ⟨.hbm, 324, rfl⟩
abbrev main_v28 : Ref sig .tc := ⟨.hbm, 325, rfl⟩
abbrev main_v29 : Ref sig .tc := ⟨.hbm, 326, rfl⟩
abbrev main_v30 : Ref sig .tc := ⟨.hbm, 327, rfl⟩
abbrev main_call4_c : Ref sig .tc := ⟨.hbm, 328, rfl⟩
abbrev main_call4_v0 : Ref sig .tc := ⟨.hbm, 329, rfl⟩
abbrev main_call4_v1 : Ref sig .tc := ⟨.hbm, 330, rfl⟩
abbrev main_call4_c_0 : Ref sig .tc := ⟨.hbm, 331, rfl⟩
abbrev main_call4_v2 : Ref sig .tc := ⟨.hbm, 332, rfl⟩
abbrev main_call4_v3 : Ref sig .tc := ⟨.hbm, 333, rfl⟩
abbrev main_call4_v4 : Ref sig .tc := ⟨.hbm, 334, rfl⟩
abbrev main_call4_v5 : Ref sig .tc := ⟨.hbm, 335, rfl⟩
abbrev main_call4_c_1 : Ref sig .tc := ⟨.hbm, 336, rfl⟩
abbrev main_call4_c_2 : Ref sig .tc := ⟨.hbm, 337, rfl⟩
abbrev main_call4_v6 : Ref sig .tc := ⟨.hbm, 338, rfl⟩
abbrev main_call4_v7 : Ref sig .tc := ⟨.hbm, 339, rfl⟩
abbrev main_call4_v8 : Ref sig .tc := ⟨.hbm, 340, rfl⟩
abbrev main_call4_v9 : Ref sig .tc := ⟨.hbm, 341, rfl⟩
abbrev main_call4_v10 : Ref sig .tc := ⟨.hbm, 342, rfl⟩
abbrev main_call4_v11 : Ref sig .tc := ⟨.hbm, 343, rfl⟩
abbrev main_call4_c_3 : Ref sig .tc := ⟨.hbm, 344, rfl⟩
abbrev main_call4_v12 : Ref sig .tc := ⟨.hbm, 345, rfl⟩
abbrev main_call4_v13 : Ref sig .tc := ⟨.hbm, 346, rfl⟩
abbrev main_call4_cst : Ref sig .tc := ⟨.hbm, 347, rfl⟩
abbrev main_call4_v14 : Ref sig .tc := ⟨.hbm, 348, rfl⟩
abbrev main_v31 : Ref sig .tc := ⟨.hbm, 349, rfl⟩

abbrev nD : Nat := 1
abbrev τ : Topo := Topo.v7x

variable {F : FTy → Type} [FloatOps F]
-- ==== Proof.Spec.lean ====
/-
  What the result is: each row of `x` read along its row of indices.
-/
module

public import Idealize.ShloMosaic.Lib.ValueIdxCore

@[expose] public section

namespace Cert.Proof.Spec

open Idealize.ShloMosaic Idealize.ShloMosaic.ValueIdx

/-- Batch by channel by time. -/
abbrev Sx : Shape := ⟨3, ![32, 128, 8192]⟩
/-- Batch by time. -/
abbrev Si : Shape := ⟨2, ![32, 8192]⟩

/-- The column that a word names. -/
def col (w : BitVec 32) : Fin 8192 := ⟨w.toNat % 8192, Nat.mod_lt _ (by norm_num)⟩

/-- Entry `(b, c, t)` of the result is `x` at `(b, c, idx[b, t])`. -/
def gathered {α : Type} (x : Sx.Idx → α) (idx : Si.Idx → BitVec 32) : Sx.Idx → α :=
  fun j => x (ix3 (j 0) (j 1) (col (idx (ix2 (j 0) (j 2)))))

theorem col_val {w : BitVec 32} (h : w.toNat < 8192) : (col w).val = w.toNat := Nat.mod_eq_of_lt h

end Cert.Proof.Spec

end
-- ==== Proof.Common.lean ====
/-
  The launch as the SparseCore library sees it: the configuration, the facts about its
  semaphores, the ghost state (the launch's handshake rounds next to the counters the copies in
  flight use), and names for the arrays and scratches a task handles.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Tactic
public import Idealize.ShloMosaic.Lib.Transfers
public import Idealize.ShloMosaic.Lib.Memref
public import Idealize.ShloMosaic.Lib.Writes
public import proofs.«01_k».proof.Proof.Gen.KernelIdeal
public import proofs.«01_k».proof.Proof.Gen.KernelIdeal.Skeleton
public import proofs.«01_k».proof.Proof.Spec

@[expose] public section

noncomputable section

namespace Cert.Proof.SC

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The ghost state -/

abbrev UH : Type := URounds (GSem nD τ sig) ℕ
abbrev UU : Type := UH × Counters

local notation "𝕄" => MT nD τ sig (HIx 1) (Elt F) ℕ UU ℕ

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb

instance EH_landsIn : (EH : Emb UH 𝕄).LandsIn (upEmb : UEmb _ 𝕄) := by unfold EH; infer_instance

/-- The counters the copies in flight are told by. -/
def EC : UEmb Counters (MT nD τ sig (HIx 1) (Elt F) ℕ UU ℕ) := countersEmb

/-! ## The arrays, the scratches and a task's place -/

/-- The float argument, the index array the host computes, and the result, on device `d`. -/
abbrev xLoc (d : Dev nD) : Loc nD τ sig := (SparseCore.T d).loc main_arg0
abbrev iLoc (d : Dev nD) : Loc nD τ sig := (SparseCore.T d).loc main_v28
abbrev oLoc (d : Dev nD) : Loc nD τ sig := (SparseCore.T d).loc main_v29

abbrev xV : Memref sig .scVector .hbm S32x128x8192 .f32 := Memref.whole main_arg0_scv
abbrev iV : Memref sig .scVector .hbm S32x8192 .i32 := Memref.whole main_v28_scv
abbrev oV : Memref sig .scVector .hbm S32x128x8192 .f32 := Memref.whole main_v29_scv
/-- The scratch for a row of indices, the two for four rows of the argument, the two for two rows of the result. -/
abbrev sI : Memref sig .scVector .vmem S8192 .i32 := Memref.whole cc0_scratch0
abbrev sA : Memref sig .scVector .vmem S4x8192 .f32 := Memref.whole cc0_scratch1
abbrev sB : Memref sig .scVector .vmem S4x8192 .f32 := Memref.whole cc0_scratch2
abbrev sC : Memref sig .scVector .vmem S2x8192 .f32 := Memref.whole cc0_scratch3
abbrev sD : Memref sig .scVector .vmem S2x8192 .f32 := Memref.whole cc0_scratch4

abbrev cV (i : grid0.Coords) : Fin τ.nSC := (i 0).castLE hcore0
abbrev jV (i : grid0.Coords) : Fin τ.nSub := (i 1).castLE hsub0
/-- The task's thread. -/
abbrev thr (d : Dev nD) (i : grid0.Coords) : Thread nD τ := V d (cV i) (jV i)

/-- The row of the arrays a task works on. -/
def row (i : grid0.Coords) : Fin 32 :=
  ⟨2 * (i 1).val + (i 0).val, by have h0 : (i 0).val < 2 := (i 0).isLt; have h1 : (i 1).val < 16 := (i 1).isLt; omega⟩

end Cert.Proof.SC
-- ==== Proof.Inner.lean ====
/-
  The gather of two rows inside a task. The kernel writes the same loop four times, over a pair of
  rows of one of the four-row scratches into one of the two-row scratches; here it is stated and
  proved once, at any scratches and any pair of rows, and the four printed loops are it.
-/
module

public import proofs.«01_k».proof.Proof.Common

@[expose] public section

noncomputable section

namespace Cert.Proof.SC

open Cert.KernelIdeal Cert.KernelIdeal.Gen Cert.Proof.Spec

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig (HIx 1) (Elt F) ℕ UU ℕ

/-- One trip: sixteen indices are loaded, and the elements they name in rows `w₀` and `w₁` of `src` stored
    into the two rows of `dst`. -/
def trip (i : grid0.Coords) (ix : Memref sig .scVector .vmem S8192 .i32) (src : Memref sig .scVector .vmem S4x8192 .f32)
    (dst : Memref sig .scVector .vmem S2x8192 .f32) (w₀ w₁ : BitVec 32) :
    Fin k0_t2_loop.trips → Unit → Prog (TpuEff nD τ sig (Elt F) Λ₀ (.scVector ((i 0).castLE hcore0) ((i 1).castLE hsub0))) Unit :=
  fun k _ => do
    let v : Vec F S16 .i32 ← Prog.lift (.load ix (Rect.unit (s := S8192) (k0_off6 k) S16.size (k0_off6_inb k)).toLoadRect (View.loadsAt_vmem h_S16))
    have a : IVec S16 32 := broadcast S16 w₀
    have ha : k0_chk1 v a := (← Prog.lift (TpuEff.assume (k0_chk1 v a) (k0_chk1.dec v a))).down
    let p : Vec F S16 .f32 ← SparseCore.vectorLoadIdx src ![a, v] (k0_idx1_inb v a ha) (View.loads_vmem h_S4x8192)
    let _p' : Vec F S1x16 .f32 ← Prog.lift (.load dst (Rect.unit (s := S2x8192) (k0_off7 k) S1x16.size (k0_off7_inb k)).toLoadRect (View.loadsAt_vmem h_S1x16))
    Prog.lift (.store dst (Rect.unit (s := S2x8192) (k0_off7 k) S1x16.size (k0_off7_inb k)) (shapeCast S1x16 p shapeCasts_S16_S1x16) Finset.univ (View.stores_vmem_bits_univ h_S1x16 rfl) (.inl rfl))
    have b : IVec S16 32 := broadcast S16 w₁
    have hb : k0_chk2 v b := (← Prog.lift (TpuEff.assume (k0_chk2 v b) (k0_chk2.dec v b))).down
    let q : Vec F S16 .f32 ← SparseCore.vectorLoadIdx src ![b, v] (k0_idx2_inb v b hb) (View.loads_vmem h_S4x8192)
    let _q' : Vec F S1x16 .f32 ← Prog.lift (.load dst (Rect.unit (s := S2x8192) (k0_off8 k) S1x16.size (k0_off8_inb k)).toLoadRect (View.loadsAt_vmem h_S1x16))
    Prog.lift (.store dst (Rect.unit (s := S2x8192) (k0_off8 k) S1x16.size (k0_off8_inb k)) (shapeCast S1x16 q shapeCasts_S16_S1x16) Finset.univ (View.stores_vmem_bits_univ h_S1x16 rfl) (.inl rfl))
    pure ⟨⟩

/-! ## The printed loops are this one -/

section Printed
variable (i : grid0.Coords) (arg2 : Memref sig .scVector .hbm S32x128x8192 .f32) (harg2 : arg2.IsWhole) (arg3 : Memref sig .scVector .hbm S32x8192 .i32) (harg3 : arg3.IsWhole) (arg4 : Memref sig .scVector .hbm S32x128x8192 .f32) (harg4 : arg4.IsWhole) (arg5 : Memref sig .scVector .vmem S8192 .i32) (harg5 : arg5.IsWhole) (arg6 : Memref sig .scVector .vmem S4x8192 .f32) (harg6 : arg6.IsWhole) (arg7 : Memref sig .scVector .vmem S4x8192 .f32) (harg7 : arg7.IsWhole) (arg8 : Memref sig .scVector .vmem S2x8192 .f32) (harg8 : arg8.IsWhole) (arg9 : Memref sig .scVector .vmem S2x8192 .f32) (harg9 : arg9.IsWhole) (arg10 arg11 arg12 arg13 r : DmaSems sig S_) (c c' : BitVec 32) (p : Fin k0_t1_loop.trips)

theorem t2_eq : k0_t2_body (F := F) i arg2 harg2 arg3 harg3 arg4 harg4 arg5 harg5 arg6 harg6 arg7 harg7 arg8 harg8 arg9 harg9 arg10 arg11 arg12 arg13 r c c' p
    = trip i arg5 arg6 arg8 0#32 1#32 := rfl
theorem t3_eq : k0_t3_body (F := F) i arg2 harg2 arg3 harg3 arg4 harg4 arg5 harg5 arg6 harg6 arg7 harg7 arg8 harg8 arg9 harg9 arg10 arg11 arg12 arg13 r c c' p
    = trip i arg5 arg6 arg9 2#32 3#32 := rfl
theorem t4_eq (v : BitVec 32) : k0_t4_body (F := F) i arg2 harg2 arg3 harg3 arg4 harg4 arg5 harg5 arg6 harg6 arg7 harg7 arg8 harg8 arg9 harg9 arg10 arg11 arg12 arg13 r p v
    = trip i arg5 arg7 arg8 0#32 1#32 := rfl
theorem t5_eq (v : BitVec 32) : k0_t5_body (F := F) i arg2 harg2 arg3 harg3 arg4 harg4 arg5 harg5 arg6 harg6 arg7 harg7 arg8 harg8 arg9 harg9 arg10 arg11 arg12 arg13 r p v
    = trip i arg5 arg7 arg9 2#32 3#32 := rfl
end Printed

/-! ## What the two stores of a trip leave -/

section Value
variable {α : Type}

/-- What row `r` of the pair is to hold: the row `2 r + y 0` of the source, at the column the index names. -/
def pair (r : Fin 2) (R : S4x8192.Idx → α) (I : S8192.Idx → BitVec 32) : S2x8192.Idx → α :=
  fun y => R (ix2 (n0 := 4) (n1 := 8192) ⟨2 * r.val + (y 0).val, by have h : (y 0).val < 2 := (y 0).isLt; omega⟩ (col (I (ix1 (n := 8192) (y 1)))))

/-- A row of sixteen seen as one of a one-row table. -/
theorem cast_row (p : S16.Idx → α) (x : S1x16.Idx) : shapeCast S1x16 p shapeCasts_S16_S1x16 x = p (ix1 (n := 16) (x 1)) := by
  unfold shapeCast
  refine congrArg p (Shape.reshapeEquiv_eq_of_rowMajor _ ?_)
  have h0 : (x 0).val = 0 := by have h : (x 0).val < 1 := (x 0).isLt; omega
  rw [Shape.rowMajor_val_one, Shape.rowMajor_val_two, h0]
  show (x 1).val = 0 * 16 + (x 1).val
  omega

/-- The place a rectangle of unit stride gives an index, one coordinate at a time. -/
theorem emb_unit_val {s : Shape} (off size : Fin s.rank → ℕ) (inb : ∀ a, off a + size a ≤ s.size a) (x : (Rect.unit off size inb).shape.Idx) (a : Fin s.rank) :
    ((Rect.unit off size inb).emb x a).val = off a + (x a).val := by
  show off a + 1 * (x a).val = _
  rw [Nat.one_mul]

variable {κ : Kind} {sp : Space} {Val : EltTy → Type} (v : View sig κ sp S2x8192 .f32) (f : v.ty.Contents Val)

theorem two_rows (k : ℕ) (o₀ o₁ : Fin 2 → ℕ) (i₀ : ∀ a, o₀ a + S1x16.size a ≤ S2x8192.size a) (i₁ : ∀ a, o₁ a + S1x16.size a ≤ S2x8192.size a)
    (e₀ : o₀ = ![0, 16 * k]) (e₁ : o₁ = ![1, 16 * k]) (T : S2x8192.Idx → Val .f32) (w₀ w₁ : S1x16.Idx → Val .f32)
    (h₀ : ∀ x, w₀ x = T ((Rect.unit (s := S2x8192) o₀ S1x16.size i₀).emb x)) (h₁ : ∀ x, w₁ x = T ((Rect.unit (s := S2x8192) o₁ S1x16.size i₁).emb x))
    (hf : ∀ y : S2x8192.Idx, (y 1).val < 16 * k → v.read Val f y = T y) (y : S2x8192.Idx) (hy : (y 1).val < 16 * (k + 1)) :
    v.read Val (v.writes Val f [⟨Rect.unit (s := S2x8192) o₁ S1x16.size i₁, w₁⟩, ⟨Rect.unit (s := S2x8192) o₀ S1x16.size i₀, w₀⟩]) y = T y := by
  subst e₀; subst e₁
  by_cases hlt : (y 1).val < 16 * k
  · rw [View.read_writes_cons_miss_of_axis v f _ _ y 1 (16 * k) 16 rfl rfl rfl (Or.inl hlt),
      View.read_writes_cons_miss_of_axis v f _ _ y 1 (16 * k) 16 rfl rfl rfl (Or.inl hlt)]
    exact hf y hlt
  · refine View.read_writes_apply_of_pieces v f T _ ?_ y ?_
    · intro p hp
      rcases List.mem_cons.mp hp with rfl | hp
      · exact h₁
      · rw [List.mem_singleton.mp hp]; exact h₀
    · have h0 : (y 0).val < 2 := (y 0).isLt
      by_cases hz : (y 0).val = 0
      · refine ⟨_, List.mem_cons_of_mem _ (List.mem_singleton.mpr rfl), ?_⟩
        show y ∈ (Rect.unit (s := S2x8192) ![0, 16 * k] S1x16.size i₀).set
        refine Rect.mem_set_unit.mpr fun a => ?_
        match a with
        | 0 => show 0 ≤ (y 0).val ∧ (y 0).val < 0 + 1; omega
        | 1 => show 16 * k ≤ (y 1).val ∧ (y 1).val < 16 * k + 16; omega
      · refine ⟨_, List.mem_cons_self, ?_⟩
        show y ∈ (Rect.unit (s := S2x8192) ![1, 16 * k] S1x16.size i₁).set
        refine Rect.mem_set_unit.mpr fun a => ?_
        match a with
        | 0 => show 1 ≤ (y 0).val ∧ (y 0).val < 1 + 1; omega
        | 1 => show 16 * k ≤ (y 1).val ∧ (y 1).val < 16 * k + 16; omega

/-- The payload of one store: the elements of row `2 r + a` the loaded indices name. -/
theorem payload (r : Fin 2) (a : Fin 2) (k : ℕ) (R : S4x8192.Idx → α) (I : S8192.Idx → BitVec 32) (hI : ∀ t, (I t).toNat < 8192)
    (w : BitVec 32) (hw : w.toNat = 2 * r.val + a.val) (x16 : S16.Idx → BitVec 32) (o : Fin 2 → ℕ) (io : ∀ a, o a + S1x16.size a ≤ S2x8192.size a)
    (eo : o = ![a.val, 16 * k])
    (hx : ∀ (j : S16.Idx) (t : S8192.Idx), (t 0).val = 16 * k + (j 0).val → x16 j = I t)
    (hin : ∀ a x, ((![(broadcast S16 w : IVec S16 32), x16] : Fin 2 → IVec S16 32) a x).toNat < S4x8192.size a) (x : S1x16.Idx) :
    shapeCast S1x16 (fun j => R (idxAt ![(broadcast S16 w : IVec S16 32), x16] hin j)) shapeCasts_S16_S1x16 x
      = pair r R I ((Rect.unit (s := S2x8192) o S1x16.size io).emb x) := by
  subst eo
  rw [cast_row]
  unfold pair
  refine congrArg R (funext fun b => ?_)
  have h0 : (x 0).val = 0 := by have h : (x 0).val < 1 := (x 0).isLt; omega
  match b with
  | 0 =>
    refine Fin.ext ?_
    show w.toNat = 2 * r.val + ((Rect.unit (s := S2x8192) ![a.val, 16 * k] S1x16.size io).emb x 0).val
    rw [emb_unit_val, hw, h0]; rfl
  | 1 =>
    refine Fin.ext ?_
    show (x16 (ix1 (n := 16) (x 1))).toNat = (col (I (ix1 (n := 8192) ((Rect.unit (s := S2x8192) ![a.val, 16 * k] S1x16.size io).emb x 1)))).val
    rw [col_val (hI _), hx (ix1 (n := 16) (x 1)) (ix1 (n := 8192) ((Rect.unit (s := S2x8192) ![a.val, 16 * k] S1x16.size io).emb x 1)) (emb_unit_val _ _ _ _ _)]

end Value

/-! ## The loop -/

section Loop
variable (d : Dev nD) (i : grid0.Coords) (ix : Memref sig .scVector .vmem S8192 .i32) (src : Memref sig .scVector .vmem S4x8192 .f32)
  (dst : Memref sig .scVector .vmem S2x8192 .f32) (I : S8192.Idx → BitVec 32) (R : S4x8192.Idx → F .f32) (r : Fin 2)

/-- Before trip `k` the first `16 k` columns of the pair are gathered. -/
def upTo (k : ℕ) (_ : Unit) : sProp 𝕄 :=
  iprop(owns (thr d i) ix fullShare I ∗ owns (thr d i) src fullShare R
    ∗ ∃ f, ⌜∀ y : S2x8192.Idx, (y 1).val < 16 * k → dst.view.read (Elt F) f y = pair r R I y⌝ ∗ dst.view.loc (thr d i) ↦[dst.view.set]{fullShare} f)

theorem chk_row (w : BitVec 32) (hw : w.toNat < 4) (x16 : S16.Idx → BitVec 32) (hx : ∀ j, (x16 j).toNat < 8192) :
    ∀ a x, ((![(broadcast S16 w : IVec S16 32), x16] : Fin 2 → IVec S16 32) a x).toNat < S4x8192.size a := fun a x =>
  match a with
  | 0 => hw
  | 1 => hx x

theorem trip_ok (hI : ∀ t, (I t).toNat < 8192) (w₀ w₁ : BitVec 32) (hw₀ : w₀.toNat = 2 * r.val) (hw₁ : w₁.toNat = 2 * r.val + 1) (k : Fin k0_t2_loop.trips) (a : Unit) :
    upTo d i ix src dst I R r k.val a
      ⊢ wp frame (wpE (defs₀ (F := F)) 𝒱₀ (thr d i) none) Set.univ (trip (F := F) i ix src dst w₀ w₁ k a) (upTo d i ix src dst I R r (k.val + 1)) := by
  have hr : r.val < 2 := r.isLt
  unfold upTo trip owns
  simp only [Prog.lift, Prog.bind_op, Prog.bind_ret, Prog.pure_eq_ret]
  iintro ⟨⟨%fI, %hfI, HI⟩, ⟨%fR, %hfR, HR⟩, %f, %hf, HD⟩
  iapply (wp_load 𝒱₀ (thr d i) none Set.univ (m := ix) (S := ix.view.set) (View.setOn_subset_set _ _)) $$ HI
  iintro HI
  have hx : ∀ (j : S16.Idx) (t : S8192.Idx), (t 0).val = 16 * k.val + (j 0).val →
      ix.view.readAt (Elt F) (Rect.unit (s := S8192) (k0_off6 k) S16.size (k0_off6_inb k)).toLoadRect fI j = I t := by
    intro j t ht
    rw [View.readAt_apply, hfI]
    refine congrArg I (funext fun b => Fin.ext ?_)
    match b with
    | 0 => exact ((emb_unit_val (s := S8192) (k0_off6 k) S16.size (k0_off6_inb k) j 0).trans (congrArg (· + (j 0).val) (congrFun (k0_off6_eq k) 0))).trans ht.symm
  have hx' : ∀ j : S16.Idx, (ix.view.readAt (Elt F) (Rect.unit (s := S8192) (k0_off6 k) S16.size (k0_off6_inb k)).toLoadRect fI j).toNat < 8192 := by
    intro j
    rw [View.readAt_apply, hfI]
    exact hI _
  generalize ix.view.readAt (Elt F) (Rect.unit (s := S8192) (k0_off6 k) S16.size (k0_off6_inb k)).toLoadRect fI = v at hx hx'
  have hc₀ := chk_row w₀ (by omega) v hx'
  have hc₁ := chk_row w₁ (by omega) v hx'
  rw [wp_assume_of _ _ _ _ (show k0_chk1 v (broadcast S16 w₀) from hc₀)]
  iapply (SparseCore.wp_vectorLoadIdx 𝒱₀ (thr d i) none Set.univ (base := src) (S := src.view.set) (q := fullShare) (View.set_slice_subset _ _)) $$ HR
  iintro HR
  iapply (wp_load 𝒱₀ (thr d i) none Set.univ (m := dst) (S := dst.view.set) (View.setOn_subset_set _ _)) $$ HD
  iintro HD
  iapply (wp_store_writes₀ 𝒱₀ (thr d i) none Set.univ (m := dst) (S := dst.view.set) (View.set_slice_subset _ _)) $$ HD
  iintro HD
  rw [wp_assume_of _ _ _ _ (show k0_chk2 v (broadcast S16 w₁) from hc₁)]
  iapply (SparseCore.wp_vectorLoadIdx 𝒱₀ (thr d i) none Set.univ (base := src) (S := src.view.set) (q := fullShare) (View.set_slice_subset _ _)) $$ HR
  iintro HR
  iapply (wp_load 𝒱₀ (thr d i) none Set.univ (m := dst) (S := dst.view.set) (View.setOn_subset_set _ _)) $$ HD
  iintro HD
  iapply (wp_store_writes 𝒱₀ (thr d i) none Set.univ (m := dst) (S := dst.view.set) (View.set_slice_subset _ _)) $$ HD
  iintro HD
  rw [wp_ret]; imodintro
  isplitl [HI]
  · iexists fI; isplitr
    · ipureintro; exact hfI
    · iexact HI
  isplitl [HR]
  · iexists fR; isplitr
    · ipureintro; exact hfR
    · iexact HR
  iexists _; isplitr
  rotate_left
  · iexact HD
  · ipureintro
    have hread : (src.access (.whole S4x8192)).read (Elt F) fR = R := by
      rw [← hfR]
      funext j
      show src.view.read (Elt F) fR ((Rect.whole S4x8192).emb j) = src.view.read (Elt F) fR j
      rw [Rect.emb_whole_apply]
    rw [hread]
    exact two_rows dst.view f k.val (k0_off7 k) (k0_off8 k) (k0_off7_inb k) (k0_off8_inb k) (k0_off7_eq k) (k0_off8_eq k) (pair r R I) _ _
      (payload r 0 k.val R I hI w₀ hw₀ v (k0_off7 k) (k0_off7_inb k) (k0_off7_eq k) hx hc₀)
      (payload r 1 k.val R I hI w₁ hw₁ v (k0_off8 k) (k0_off8_inb k) (k0_off8_eq k) hx hc₁) hf

/-- The loop: from a row of indices, four rows of the argument and a two-row scratch holding anything, it leaves in
    the scratch the pair gathered. -/
theorem loop_ok (hI : ∀ t, (I t).toNat < 8192) (w₀ w₁ : BitVec 32) (hw₀ : w₀.toNat = 2 * r.val) (hw₁ : w₁.toNat = 2 * r.val + 1)
    {β : Type} {kk : Unit → Prog (TpuEff nD τ sig (Elt F) Λ₀ (.scVector ((i 0).castLE hcore0) ((i 1).castLE hsub0))) β} {Q : β → sProp 𝕄} :
    iprop(owns (thr d i) ix fullShare I ∗ owns (thr d i) src fullShare R ∗ ∃ g, owns (thr d i) dst fullShare g)
      ⊢ iprop((iprop(owns (thr d i) ix fullShare I ∗ owns (thr d i) src fullShare R ∗ owns (thr d i) dst fullShare (pair r R I))
            -∗ wp frame (wpE (defs₀ (F := F)) 𝒱₀ (thr d i) none) Set.univ (kk ⟨⟩) Q)
          -∗ wp frame (wpE (defs₀ (F := F)) 𝒱₀ (thr d i) none) Set.univ
              (Scf.Loop.for k0_t2_loop k0_t2_ok ⟨⟩ (trip (F := F) i ix src dst w₀ w₁) >>= kk) Q) := by
  have hstart : iprop(owns (thr d i) ix fullShare I ∗ owns (thr d i) src fullShare R ∗ ∃ g, owns (thr d i) dst fullShare g)
      ⊢ upTo d i ix src dst I R r 0 ⟨⟩ := by
    unfold upTo
    iintro ⟨HI, HR, %g, HD⟩
    ihave HD' := (show owns (thr d i) dst fullShare g ⊢ iprop(∃ f, ⌜dst.view.read (Elt F) f = g⌝ ∗ dst.view.loc (thr d i) ↦[dst.view.set]{fullShare} f) from .rfl) $$ HD
    icases HD' with ⟨%f, %hf, HD⟩
    isplitl [HI]; · iexact HI
    isplitl [HR]; · iexact HR
    iexists f
    isplitr
    · ipureintro; intro y hy; exact absurd hy (by omega)
    · iexact HD
  have hend (acc : Unit) : upTo d i ix src dst I R r k0_t2_loop.trips acc
      ⊢ iprop(owns (thr d i) ix fullShare I ∗ owns (thr d i) src fullShare R ∗ owns (thr d i) dst fullShare (pair r R I)) := by
    unfold upTo
    iintro ⟨HI, HR, %f, %hf, HD⟩
    isplitl [HI]; · iexact HI
    isplitl [HR]; · iexact HR
    have hf' : dst.view.read (Elt F) f = pair r R I := funext fun y => hf y (by
      have h : (y 1).val < 8192 := (y 1).isLt
      have ht : k0_t2_loop.trips = 512 := by decide
      omega)
    rw [← hf']
    iapply (owns_intro (thr d i) dst fullShare f) $$ HD
  refine hstart.trans ((Scf.wp_for_bind _ _ _ _ _ _ k0_t2_ok ⟨⟩ (trip (F := F) i ix src dst w₀ w₁) (upTo d i ix src dst I R r)
    (trip_ok d i ix src dst I R r hI w₀ w₁ hw₀ hw₁) (kk := kk) (Q := Q)).trans ?_)
  iintro H Hk
  iapply H
  iintro %acc HI
  ihave HI' := hend acc $$ HI
  iapply Hk $$ HI'

end Loop

end Cert.Proof.SC
-- ==== Proof.Block.lean ====
/-
  Blocks of consecutive rows of one batch entry: where a slice of such a block, squeezed to a table
  of rows, places its elements; what it reads; what writing through it leaves.
-/
module

public import proofs.«01_k».proof.Proof.Inner

@[expose] public section

noncomputable section

namespace Cert.Proof.SC

open Cert.KernelIdeal Cert.KernelIdeal.Gen Cert.Proof.Spec

open Idealize.ShloMosaic Idealize.ShloMosaic.ValueIdx

/-- A table of `c` rows. -/
abbrev Rows (c : ℕ) : Shape := ⟨2, ![c, 8192]⟩
/-- The same as a block of one batch entry. -/
abbrev Block (c : ℕ) : Shape := ⟨3, ![1, c, 8192]⟩

/-- The elements of batch entry `b` in rows `lo` to `hi`. -/
def rng (b : Fin 32) (lo hi : ℕ) : Finset S32x128x8192.Idx :=
  Finset.univ.filter fun j => (j 0).val = b.val ∧ lo ≤ (j 1).val ∧ (j 1).val < hi

theorem mem_rng {b : Fin 32} {lo hi : ℕ} {j : S32x128x8192.Idx} : j ∈ rng b lo hi ↔ (j 0).val = b.val ∧ lo ≤ (j 1).val ∧ (j 1).val < hi := by
  unfold rng
  simp only [Finset.mem_filter, Finset.mem_univ, true_and]

theorem rng_disjoint (b : Fin 32) (lo mid hi : ℕ) : Disjoint (rng b lo mid) (rng b mid hi) :=
  Finset.disjoint_left.mpr fun j h h' => by
    have h₁ := (mem_rng.mp h).2.2
    have h₂ := (mem_rng.mp h').2.1
    omega

theorem rng_union (b : Fin 32) {lo mid hi : ℕ} (h₁ : lo ≤ mid) (h₂ : mid ≤ hi) : rng b lo mid ∪ rng b mid hi = rng b lo hi := by
  ext j
  simp only [Finset.mem_union, mem_rng]
  constructor
  · rintro (⟨h, h', h''⟩ | ⟨h, h', h''⟩)
    · exact ⟨h, h', by omega⟩
    · exact ⟨h, by omega, h''⟩
  · rintro ⟨h, h', h''⟩
    by_cases hm : (j 1).val < mid
    · exact Or.inl ⟨h, h', hm⟩
    · exact Or.inr ⟨h, by omega, h''⟩

theorem rng_sub (b : Fin 32) {lo hi : ℕ} (h : hi ≤ 128) : rng b lo hi ⊆ rng b 0 128 := fun j hj =>
  mem_rng.mpr ⟨(mem_rng.mp hj).1, by omega, by have := (mem_rng.mp hj).2.2; omega⟩

theorem rng_empty (b : Fin 32) (n : ℕ) : rng b n n = ∅ := by
  ext j
  simp only [mem_rng, Finset.notMem_empty, iff_false]
  rintro ⟨-, h, h'⟩
  omega

/-- The place of entry `y` of a table of rows that starts at row `n`. -/
def cell (b : Fin 32) (n : ℕ) {c : ℕ} (y : (Rows c).Idx) : S32x128x8192.Idx :=
  ix3 b ⟨(n + (y 0).val) % 128, Nat.mod_lt _ (by norm_num)⟩ (y 1)

/-- The table of the `c` rows from row `n`. -/
def rows {α : Type} (b : Fin 32) (n c : ℕ) (f : S32x128x8192.Idx → α) : (Rows c).Idx → α := fun y => f (cell b n y)

section Slice
variable {c : ℕ} (m : Memref sig .scVector .hbm S32x128x8192 .f32) (b : Fin 32) (n : ℕ) (hn : n + c ≤ 128)
  (o : Fin 3 → ℕ) (inb : ∀ a, o a + (Block c).size a ≤ S32x128x8192.size a) (hs : ∀ a, (Rect.unit (s := S32x128x8192) o (Block c).size inb).stride a = 1)
  (hq : (Block c).Squeezes (Rows c)) (ho : o = ![b.val, n, 0])

/-- The block's slice, squeezed. -/
abbrev slab : Memref sig .scVector .hbm (Rows c) .f32 := (m.slice (Rect.unit (s := S32x128x8192) o (Block c).size inb) hs).squeeze (Rows c) hq

include hn ho

theorem emb_slab (y : (Rows c).Idx) : (slab m o inb hs hq).view.emb y = m.view.emb (cell b n y) := by
  subst ho
  show m.view.emb ((Rect.unit (s := S32x128x8192) ![b.val, n, 0] (Block c).size inb).emb (Shape.reshapeEquiv hq.numel_eq y)) = _
  have hy : (y 0).val < c := (y 0).isLt
  have e : (Shape.reshapeEquiv hq.numel_eq y : (Block c).Idx) = ix3 (0 : Fin 1) (y 0 : Fin c) (y 1 : Fin 8192) := by
    have key (z : (Block c).Idx) (h0 : (z 0).val = 0) (h1 : (z 1).val = (y 0).val) (h2 : (z 2).val = (y 1).val) :
        ((Block c).rowMajor z).val = ((Rows c).rowMajor y).val := by
      rw [Shape.rowMajor_val_two, Shape.rowMajor_val_three, h0, h1, h2]
      show (0 * c + (y 0).val) * 8192 + (y 1).val = (y 0).val * 8192 + (y 1).val
      omega
    exact Shape.reshapeEquiv_eq_of_rowMajor _ (key _ rfl rfl rfl)
  rw [e]
  refine congrArg m.view.emb (funext fun a => Fin.ext ?_)
  refine (emb_unit_val _ _ _ _ _).trans ?_
  match a with
  | 0 => show b.val + 0 = b.val; omega
  | 1 => show n + (y 0).val = (n + (y 0).val) % 128; rw [Nat.mod_eq_of_lt (by omega)]
  | 2 => show 0 + (y 1).val = (y 1).val; omega

end Slice

section Whole
variable {c : ℕ} (b : Fin 32) (n : ℕ) (hn : n + c ≤ 128)
  (o : Fin 3 → ℕ) (inb : ∀ a, o a + (Block c).size a ≤ S32x128x8192.size a) (hs : ∀ a, (Rect.unit (s := S32x128x8192) o (Block c).size inb).stride a = 1)
  (hq : (Block c).Squeezes (Rows c)) (ho : o = ![b.val, n, 0]) {Val : EltTy → Type}

include hn

theorem cell_mem (y : (Rows c).Idx) : cell b n y ∈ rng b n (n + c) := by
  have hy : (y 0).val < c := (y 0).isLt
  refine mem_rng.mpr ⟨rfl, ?_, ?_⟩
  · show n ≤ (n + (y 0).val) % 128
    rw [Nat.mod_eq_of_lt (by omega)]; omega
  · show (n + (y 0).val) % 128 < n + c
    rw [Nat.mod_eq_of_lt (by omega)]; omega

theorem exists_cell {j : S32x128x8192.Idx} (hj : j ∈ rng b n (n + c)) : ∃ y : (Rows c).Idx, cell b n y = j := by
  obtain ⟨h0, h1, h2⟩ := mem_rng.mp hj
  refine ⟨ix2 (⟨(j 1).val - n, by omega⟩ : Fin c) (j 2), funext fun a => Fin.ext ?_⟩
  match a with
  | 0 => exact h0.symm
  | 1 =>
    show (n + ((j 1).val - n)) % 128 = (j 1).val
    rw [Nat.mod_eq_of_lt (by omega)]; omega
  | 2 => rfl

include ho

theorem set_x : (slab xV o inb hs hq).view.set = rng b n (n + c) := by
  ext j
  constructor
  · intro h
    obtain ⟨y, -, rfl⟩ := Finset.mem_map.mp h
    rw [emb_slab xV b n hn o inb hs hq ho y]
    exact cell_mem b n hn y
  · intro h
    obtain ⟨y, rfl⟩ := exists_cell b n hn h
    have := View.emb_mem_set (v := (slab xV o inb hs hq).view) y
    rwa [emb_slab xV b n hn o inb hs hq ho y] at this

theorem read_x (f : S32x128x8192.Idx → Val .f32) : (slab xV o inb hs hq).view.read Val f = rows b n c f := by
  funext y
  show f ((slab xV o inb hs hq).view.emb y) = f (cell b n y)
  rw [emb_slab xV b n hn o inb hs hq ho y]; rfl

theorem set_o : (slab oV o inb hs hq).view.set = rng b n (n + c) := by
  ext j
  constructor
  · intro h
    obtain ⟨y, -, rfl⟩ := Finset.mem_map.mp h
    rw [emb_slab oV b n hn o inb hs hq ho y]
    exact cell_mem b n hn y
  · intro h
    obtain ⟨y, rfl⟩ := exists_cell b n hn h
    have := View.emb_mem_set (v := (slab oV o inb hs hq).view) y
    rwa [emb_slab oV b n hn o inb hs hq ho y] at this

theorem write_o (f G : S32x128x8192.Idx → Val .f32) : ∀ j ∈ rng b n (n + c), (slab oV o inb hs hq).view.write Val f (rows b n c G) Finset.univ j = G j := by
  intro j hj
  obtain ⟨y, rfl⟩ := exists_cell b n hn hj
  have h := View.write_emb_of_mem (v := (slab oV o inb hs hq).view) (Val := Val) f (rows b n c G) (Finset.mem_univ y)
  rw [emb_slab oV b n hn o inb hs hq ho y] at h
  exact h.trans rfl

end Whole

/-! ## The row of indices -/

/-- The row of the index array for batch entry `b`. -/
def idxRow {α : Type} (b : Fin 32) (f : S32x8192.Idx → α) : S8192.Idx → α := fun t => f (ix2 b (t 0))

/-- The elements of that row. -/
def irng (b : Fin 32) : Finset S32x8192.Idx := Finset.univ.filter fun j => (j 0).val = b.val

theorem mem_irng {b : Fin 32} {j : S32x8192.Idx} : j ∈ irng b ↔ (j 0).val = b.val := by
  unfold irng
  simp only [Finset.mem_filter, Finset.mem_univ, true_and]

section IdxRow
variable (b : Fin 32) (o : Fin 2 → ℕ) (inb : ∀ a, o a + S1x8192.size a ≤ S32x8192.size a)
  (hs : ∀ a, (Rect.unit (s := S32x8192) o S1x8192.size inb).stride a = 1) (ho : o = ![b.val, 0]) {Val : EltTy → Type}

abbrev islab : Memref sig .scVector .hbm S8192 .i32 :=
  (iV.slice (Rect.unit (s := S32x8192) o S1x8192.size inb) hs).squeeze S8192 squeezes_S1x8192_S8192

include ho

theorem emb_islab (t : S8192.Idx) : (islab o inb hs).view.emb t = ix2 b (t 0) := by
  subst ho
  show (Rect.unit (s := S32x8192) ![b.val, 0] S1x8192.size inb).emb (Shape.reshapeEquiv squeezes_S1x8192_S8192.numel_eq t) = _
  have e : (Shape.reshapeEquiv squeezes_S1x8192_S8192.numel_eq t : S1x8192.Idx) = ix2 (0 : Fin 1) (t 0 : Fin 8192) := by
    have key (z : S1x8192.Idx) (h0 : (z 0).val = 0) (h1 : (z 1).val = (t 0).val) : (S1x8192.rowMajor z).val = (S8192.rowMajor t).val := by
      rw [Shape.rowMajor_val_one, Shape.rowMajor_val_two, h0, h1]
      show 0 * 8192 + (t 0).val = (t 0).val
      omega
    exact Shape.reshapeEquiv_eq_of_rowMajor _ (key _ rfl rfl)
  rw [e]
  refine funext fun a => Fin.ext ?_
  refine (emb_unit_val _ _ _ _ _).trans ?_
  match a with
  | 0 => show b.val + 0 = b.val; omega
  | 1 => show 0 + (t 0).val = (t 0).val; omega

theorem set_i : (islab o inb hs).view.set = irng b := by
  ext j
  constructor
  · intro h
    obtain ⟨t, -, rfl⟩ := Finset.mem_map.mp h
    rw [emb_islab b o inb hs ho t]
    exact mem_irng.mpr rfl
  · intro h
    have e : ix2 b (j 1) = j := funext fun a => match a with
      | 0 => Fin.ext (mem_irng.mp h).symm
      | 1 => rfl
    have := View.emb_mem_set (v := (islab o inb hs).view) (ix1 (n := 8192) (j 1))
    rw [emb_islab b o inb hs ho _] at this
    exact e ▸ this

theorem read_i (f : S32x8192.Idx → Val .i32) : (islab o inb hs).view.read Val f = idxRow b f := by
  funext t
  show f ((islab o inb hs).view.emb t) = f (ix2 b (t 0))
  exact congrArg f (emb_islab b o inb hs ho t)

end IdxRow

/-- The pair of rows `2 r`, `2 r + 1` gathered from the four rows at `n` is rows `n + 2 r` of the whole gathered. -/
theorem pair_rows {α : Type} (b : Fin 32) (n : ℕ) (r : Fin 2) (X : S32x128x8192.Idx → α) (I : S32x8192.Idx → BitVec 32) :
    pair r (rows b n 4 X) (idxRow b I) = rows b (n + 2 * r.val) 2 (gathered X I) := by
  funext y
  unfold pair rows cell idxRow gathered
  refine congrArg X (funext fun a => Fin.ext ?_)
  match a with
  | 0 => rfl
  | 1 => show (n + (2 * r.val + (y 0).val)) % 128 = (n + 2 * r.val + (y 0).val) % 128; rw [Nat.add_assoc]
  | 2 => rfl

end Cert.Proof.SC
-- ==== Proof.Copies.lean ====
/-
  The copies of a task: what is held while one is in flight, and what issuing one and waiting for
  one does to what the task holds.
-/
module

public import proofs.«01_k».proof.Proof.Block

@[expose] public section

noncomputable section

namespace Cert.Proof.SC

open Cert.KernelIdeal Cert.KernelIdeal.Gen Cert.Proof.Spec

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig (HIx 1) (Elt F) ℕ UU ℕ

instance EC_landsIn : (EC : UEmb Counters 𝕄).LandsIn (upEmb : UEmb _ 𝕄) := by unfold EC; infer_instance

variable (d : Dev nD) (i : grid0.Coords)

/-- Elements of the three arrays, as a task names them. -/
def xPts (S : Finset S32x128x8192.Idx) (f : S32x128x8192.Idx → F .f32) : sProp 𝕄 := iprop(xV.view.loc (thr d i) ↦[S]{fullShare} f)
def oPts (S : Finset S32x128x8192.Idx) (f : S32x128x8192.Idx → F .f32) : sProp 𝕄 := iprop(oV.view.loc (thr d i) ↦[S]{fullShare} f)
def iPts (S : Finset S32x8192.Idx) (f : S32x8192.Idx → BitVec 32) : sProp 𝕄 := iprop(iV.view.loc (thr d i) ↦[S]{fullShare} f)

/-- What the task owes, whatever waits of its own copies it has made. -/
def owing (O : CellTallies nD τ sig (HIx 1)) (W : Waits sig (HIx 1)) : sProp 𝕄 :=
  iprop(∃ W', ⌜∀ p ∈ W', p ∈ W ∨ p.2 = none⌝ ∗ owes (thr d i) O W')

/-- A scratch with anything in it, its copy's semaphore at zero. -/
def free {s : Shape} {e : EltTy} (buf : Memref sig .scVector .vmem s e) (sem : DmaSems sig S_) : sProp 𝕄 :=
  iprop((∃ g, owns (thr d i) buf fullShare g) ∗ semVal (thr d i, .dma sem.sem) 0)

variable (X G : S32x128x8192.Idx → F .f32)

/-- Four rows of the argument from row `n`, on their way into a scratch. -/
def flyIn (buf : Memref sig .scVector .vmem S4x8192 .f32) (sem : DmaSems sig S_) (n : ℕ) : sProp 𝕄 :=
  Flight EC (thr d i) (.dma sem.sem) none buf.view.dmaCredit
    iprop(owns (thr d i) buf fullShare (rows (row i) n 4 X) ∗ xPts d i (rng (row i) n (n + 4)) X)

/-- What the task keeps of its row of the argument meanwhile. -/
def xRest (n : ℕ) : sProp 𝕄 := xPts d i (rng (row i) 0 128 \ rng (row i) n (n + 4)) X

/-- The units a copy out counts. -/
abbrev outCredit : ℕ := sig.dmaCredit .scVector (Kind.scVector.table .hbm) (main_v29_scv : Ref sig .scVector).idx S2x8192 .f32

/-- Two rows of the result at row `n`, on their way out of a scratch. -/
def flyOut (buf : Memref sig .scVector .vmem S2x8192 .f32) (sem : DmaSems sig S_) (n : ℕ) : sProp 𝕄 :=
  Flight EC (thr d i) (.dma sem.sem) none outCredit
    iprop(oPts d i (rng (row i) n (n + 2)) G ∗ ∃ g, owns (thr d i) buf fullShare g)

theorem pos4 (buf : Memref sig .scVector .vmem S4x8192 .f32) : 0 < buf.view.dmaCredit := View.dmaCredit_pos _ (by decide)
theorem pos1 (buf : Memref sig .scVector .vmem S8192 .i32) : 0 < buf.view.dmaCredit := View.dmaCredit_pos _ (by decide)
theorem posOut : 0 < outCredit := sig.dmaCredit_pos _ _ _ _ _ (by decide)

theorem oPts_join (f : S32x128x8192.Idx → F .f32) {lo mid hi : ℕ} (h₁ : lo ≤ mid) (h₂ : mid ≤ hi) :
    (oPts d i (rng (row i) lo hi) f : sProp 𝕄) = iprop(oPts d i (rng (row i) lo mid) f ∗ oPts d i (rng (row i) mid hi) f) := by
  unfold oPts
  rw [← rng_union (row i) h₁ h₂]
  exact BI.Entails.antisymm (pointsTo_union (rng_disjoint (row i) lo mid hi)).1 (pointsTo_union (rng_disjoint (row i) lo mid hi)).2

theorem xPts_split (n : ℕ) (hn : n + 4 ≤ 128) :
    (xPts d i (rng (row i) 0 128) X : sProp 𝕄) = iprop(xPts d i (rng (row i) n (n + 4)) X ∗ xRest d i X n) := by
  unfold xPts xRest xPts
  exact BI.Entails.antisymm (pointsTo_split_subset (rng_sub (row i) hn)).1 (pointsTo_split_subset (rng_sub (row i) hn)).2

/-- A scratch owned at some contents. -/
theorem owns_open {s : Shape} {e : EltTy} (buf : Memref sig .scVector .vmem s e) (g : s.Idx → Elt F e) :
    (owns (thr d i) buf fullShare g : sProp 𝕄) ⊢ iprop(∃ f, ⌜buf.view.read (Elt F) f = g⌝ ∗ (buf.view.loc (thr d i) ↦[buf.view.set]{fullShare} f)) := .rfl

section Steps
variable {α : Type} {Q : α → sProp (MT nD τ sig (HIx 1) (Elt F) ℕ UU ℕ)}
  {k : PUnit → Prog (TpuEff nD τ sig (Elt F) Λ₀ (.scVector ((i 0).castLE hcore0) ((i 1).castLE hsub0))) α}

/-- Issuing a copy in. -/
theorem start_in (n : ℕ) (hn : n + 4 ≤ 128) (buf : Memref sig .scVector .vmem S4x8192 .f32) (sem : DmaSems sig S_)
    {o : Fin 3 → ℕ} {inb : ∀ a, o a + (Block 4).size a ≤ S32x128x8192.size a} {hs : ∀ a, (Rect.unit (s := S32x128x8192) o (Block 4).size inb).stride a = 1}
    {hq : (Block 4).Squeezes (Rows 4)} (ho : o = ![(row i).val, n, 0]) {h₁ : (slab xV o inb hs hq).view.WordExact} {h₂ : buf.view.WordExact}
    {h₃ : DmaTarget.Typed (nD := nD) .hbm (.dma sem.sem) (.here (p := (thr d i).2) buf)} :
    iprop(free d i buf sem ∗ xPts d i (rng (row i) 0 128) X)
      ⊢ iprop((iprop(flyIn d i X buf sem n ∗ xRest d i X n) -∗ wp frame (wpE (defs₀ (F := F)) 𝒱₀ (thr d i) none) Set.univ (k ⟨⟩) Q)
        -∗ wp frame (wpE (defs₀ (F := F)) 𝒱₀ (thr d i) none) Set.univ
            (.op (.enqueueDma (slab xV o inb hs hq) (.here buf) (.dma sem.sem) h₁ h₂ h₃) k) Q) := by
  rw [xPts_split d i X n hn]
  unfold free
  have hset : (iprop((slab xV o inb hs hq).view.loc (thr d i) ↦[(slab xV o inb hs hq).view.set]{fullShare} X) : sProp 𝕄)
      = xPts d i (rng (row i) n (n + 4)) X := by
    rw [set_x (row i) n hn o inb hs hq ho]; rfl
  have hland (f : Buf (Elt F) (buf.view.loc (thr d i))) :
      (iprop((buf.view.loc (thr d i) ↦[buf.view.set]{fullShare} buf.view.write (Elt F) f ((slab xV o inb hs hq).view.read (Elt F) X) Finset.univ)
        ∗ (slab xV o inb hs hq).view.loc (thr d i) ↦[(slab xV o inb hs hq).view.set]{fullShare} X) : sProp 𝕄)
      ⊢ iprop(owns (thr d i) buf fullShare (rows (row i) n 4 X) ∗ xPts d i (rng (row i) n (n + 4)) X) := by
    have hr := View.read_write_univ (v := buf.view) f ((slab xV o inb hs hq).view.read (Elt F) X)
    rw [hset, ← read_x (row i) n hn o inb hs hq ho (Val := Elt F) X]
    iintro ⟨Hb, Hx⟩
    isplitl [Hb]
    · have ho := owns_intro (U := UU) (Ix := HIx 1) (Name := ℕ) (Lvl := ℕ) (thr d i) buf fullShare
        (buf.view.write (Elt F) f ((slab xV o inb hs hq).view.read (Elt F) X) Finset.univ)
      rw [hr] at ho
      iapply ho $$ Hb
    · iexact Hx
  iintro ⟨⟨⟨%g, Hb⟩, Hv⟩, Hx, Hr⟩ Hk
  ihave Hb' := (owns_open d i buf g) $$ Hb
  icases Hb' with ⟨%f, -, Hb⟩
  ihave Hx' := (Entails.of_eq hset.symm) $$ Hx
  iapply (Transfers.wp_dmaLocal EC 𝒱₀ (thr d i) none (none : HIx 1) buf.view.dmaCredit rfl (pos4 buf) (Finset.Subset.refl _)) $$ [Hx' Hb Hv]
  · isplitl [Hx']; · iexact Hx'
    isplitl [Hb]; · iexact Hb
    iexact Hv
  iintro Hf
  iapply Hk
  isplitr [Hr]
  · unfold flyIn
    iapply (Transfers.Flight_mono EC (thr d i) (hland f)) $$ Hf
  · iexact Hr

/-- Waiting for a copy in. -/
theorem wait_in (n : ℕ) (hn : n + 4 ≤ 128) (buf : Memref sig .scVector .vmem S4x8192 .f32) (sem : DmaSems sig S_)
    {O : CellTallies nD τ sig (HIx 1)} {W : Waits sig (HIx 1)} (hO : ∀ g, O g none = 0) {srcw : Memref sig .scVector .hbm (Rows 4) .f32}
    {h₁ : srcw.view.WordExact} {h₂ : buf.view.WordExact} :
    iprop(levAts (K (F := F)).L (K (F := F)).lev ∗ (flyIn d i X buf sem n ∗ xRest d i X n) ∗ owing d i O W)
      ⊢ iprop((iprop(owns (thr d i) buf fullShare (rows (row i) n 4 X) ∗ semVal (thr d i, .dma sem.sem) 0 ∗ xPts d i (rng (row i) 0 128) X ∗ owing d i O W)
          -∗ wp frame (wpE (defs₀ (F := F)) 𝒱₀ (thr d i) none) Set.univ (k ⟨⟩) Q)
        -∗ wp frame (wpE (defs₀ (F := F)) 𝒱₀ (thr d i) none) Set.univ (.op (.waitDma2 sem.sem srcw buf h₁ h₂) k) Q) := by
  rw [xPts_split d i X n hn]
  unfold flyIn owing
  iintro ⟨#Hlv, ⟨Hf, Hr⟩, %W', %hW', HO⟩ Hk
  iapply (Transfers.wp_waitLocalO EC 𝒱₀ (thr d i) none (none : HIx 1) (N := buf.view.dmaCredit) rfl) $$ [Hf HO]
  · isplitl [Hf]; · iexact Hf
    isplitl [HO]; · iexact HO
    iapply ((K (F := F)).mayWait_none (SemLoc.dma sem.sem) hO); iexact Hlv
  iintro ⟨⟨Hb, Hx⟩, Hv, HO⟩
  iapply Hk
  isplitl [Hb]; · iexact Hb
  isplitl [Hv]; · iexact Hv
  isplitl [Hx Hr]
  · isplitl [Hx]; · iexact Hx
    iexact Hr
  iexists _; isplitr
  rotate_left
  · iexact HO
  · ipureintro
    intro p hp
    rcases Finset.mem_insert.mp hp with rfl | hp
    · exact Or.inr rfl
    · exact hW' p hp

/-- Issuing a copy out, of the next two rows of the result. -/
theorem start_out (o₀ : S32x128x8192.Idx → F .f32) (n : ℕ) (hn : n + 2 ≤ 128) (buf : Memref sig .scVector .vmem S2x8192 .f32) (sem : DmaSems sig S_)
    {o : Fin 3 → ℕ} {inb : ∀ a, o a + (Block 2).size a ≤ S32x128x8192.size a} {hs : ∀ a, (Rect.unit (s := S32x128x8192) o (Block 2).size inb).stride a = 1}
    {hq : (Block 2).Squeezes (Rows 2)} (ho : o = ![(row i).val, n, 0]) {h₁ : buf.view.WordExact} {h₂ : (slab oV o inb hs hq).view.WordExact}
    {h₃ : DmaTarget.Typed (nD := nD) .vmem (.dma sem.sem) (.here (p := (thr d i).2) (slab oV o inb hs hq))} :
    iprop(owns (thr d i) buf fullShare (rows (row i) n 2 G) ∗ semVal (thr d i, .dma sem.sem) 0 ∗ oPts d i (rng (row i) n 128) o₀)
      ⊢ iprop((iprop(flyOut d i G buf sem n ∗ oPts d i (rng (row i) (n + 2) 128) o₀) -∗ wp frame (wpE (defs₀ (F := F)) 𝒱₀ (thr d i) none) Set.univ (k ⟨⟩) Q)
        -∗ wp frame (wpE (defs₀ (F := F)) 𝒱₀ (thr d i) none) Set.univ
            (.op (.enqueueDma buf (.here (slab oV o inb hs hq)) (.dma sem.sem) h₁ h₂ h₃) k) Q) := by
  rw [oPts_join d i o₀ (Nat.le_add_right n 2) hn]
  have hset (f : S32x128x8192.Idx → F .f32) :
      (iprop((slab oV o inb hs hq).view.loc (thr d i) ↦[(slab oV o inb hs hq).view.set]{fullShare} f) : sProp 𝕄) = oPts d i (rng (row i) n (n + 2)) f := by
    rw [set_o (row i) n hn o inb hs hq ho]; rfl
  have hland (f : Buf (Elt F) (buf.view.loc (thr d i))) (hf : buf.view.read (Elt F) f = rows (row i) n 2 G) :
      (iprop(((slab oV o inb hs hq).view.loc (thr d i) ↦[(slab oV o inb hs hq).view.set]{fullShare}
          (slab oV o inb hs hq).view.write (Elt F) o₀ (buf.view.read (Elt F) f) Finset.univ)
        ∗ buf.view.loc (thr d i) ↦[buf.view.set]{fullShare} f) : sProp 𝕄)
      ⊢ iprop(oPts d i (rng (row i) n (n + 2)) G ∗ ∃ g, owns (thr d i) buf fullShare g) := by
    rw [hset, hf]
    have hw : (oPts d i (rng (row i) n (n + 2)) ((slab oV o inb hs hq).view.write (Elt F) o₀ (rows (row i) n 2 G) Finset.univ) : sProp 𝕄)
        = oPts d i (rng (row i) n (n + 2)) G := by
      unfold oPts
      exact pointsTo_congr (write_o (row i) n hn o inb hs hq ho (Val := Elt F) o₀ G)
    rw [hw]
    iintro ⟨Ho, Hb⟩
    isplitl [Ho]; · iexact Ho
    iexists _
    iapply (owns_intro (thr d i) buf fullShare f) $$ Hb
  iintro ⟨Hb, Hv, Ho, Hr⟩ Hk
  ihave Hb' := (owns_open d i buf (rows (row i) n 2 G)) $$ Hb
  icases Hb' with ⟨%f, %hf, Hb⟩
  ihave Ho' := (Entails.of_eq (hset o₀).symm) $$ Ho
  iapply (Transfers.wp_dmaLocal EC 𝒱₀ (thr d i) none (none : HIx 1) outCredit rfl posOut (Finset.Subset.refl _)) $$ [Ho' Hb Hv]
  · isplitl [Hb]; · iexact Hb
    isplitl [Ho']; · iexact Ho'
    iexact Hv
  iintro Hf
  iapply Hk
  isplitr [Hr]
  · unfold flyOut
    iapply (Transfers.Flight_mono EC (thr d i) (hland f hf)) $$ Hf
  · iexact Hr

/-- Waiting for a copy out, the one right after the rows already landed. -/
theorem wait_out (n : ℕ) (buf : Memref sig .scVector .vmem S2x8192 .f32) (sem : DmaSems sig S_)
    {O : CellTallies nD τ sig (HIx 1)} {W : Waits sig (HIx 1)} (hO : ∀ g, O g none = 0)
    {o : Fin 3 → ℕ} {inb : ∀ a, o a + (Block 2).size a ≤ S32x128x8192.size a} {hs : ∀ a, (Rect.unit (s := S32x128x8192) o (Block 2).size inb).stride a = 1}
    {hq : (Block 2).Squeezes (Rows 2)} {h₁ : buf.view.WordExact} {h₂ : (slab oV o inb hs hq).view.WordExact} :
    iprop(levAts (K (F := F)).L (K (F := F)).lev ∗ flyOut d i G buf sem n ∗ oPts d i (rng (row i) 0 n) G ∗ owing d i O W)
      ⊢ iprop((iprop(free d i buf sem ∗ oPts d i (rng (row i) 0 (n + 2)) G ∗ owing d i O W)
          -∗ wp frame (wpE (defs₀ (F := F)) 𝒱₀ (thr d i) none) Set.univ (k ⟨⟩) Q)
        -∗ wp frame (wpE (defs₀ (F := F)) 𝒱₀ (thr d i) none) Set.univ (.op (.waitDma2 sem.sem buf (slab oV o inb hs hq) h₁ h₂) k) Q) := by
  rw [oPts_join d i G (Nat.zero_le n) (Nat.le_add_right n 2)]
  unfold flyOut owing free
  iintro ⟨#Hlv, Hf, Hd, %W', %hW', HO⟩ Hk
  iapply (Transfers.wp_waitLocalO EC 𝒱₀ (thr d i) none (none : HIx 1) (N := outCredit) rfl) $$ [Hf HO]
  · isplitl [Hf]; · iexact Hf
    isplitl [HO]; · iexact HO
    iapply ((K (F := F)).mayWait_none (SemLoc.dma sem.sem) hO); iexact Hlv
  iintro ⟨⟨Ho, Hb⟩, Hv, HO⟩
  iapply Hk
  isplitl [Hb Hv]
  · isplitl [Hb]; · iexact Hb
    iexact Hv
  isplitl [Hd Ho]
  · isplitl [Hd]; · iexact Hd
    iexact Ho
  iexists _; isplitr
  rotate_left
  · iexact HO
  · ipureintro
    intro p hp
    rcases Finset.mem_insert.mp hp with rfl | hp
    · exact Or.inr rfl
    · exact hW' p hp

end Steps

/-- A scratch of the result and its semaphore: free before the first trip, its last copy in flight after. -/
def slot (p : ℕ) (buf : Memref sig .scVector .vmem S2x8192 .f32) (sem : DmaSems sig S_) (n : ℕ) : sProp 𝕄 :=
  if p = 0 then free d i buf sem else flyOut d i G buf sem n

/-- The rows landed once a slot has been waited for. -/
def landed (p n : ℕ) : ℕ := if p = 0 then n else n + 2

/-- The wait a trip makes for a slot, which the first trip skips. -/
theorem wait_slot {α : Type} {Q : α → sProp (MT nD τ sig (HIx 1) (Elt F) ℕ UU ℕ)}
    {rest : Prog (TpuEff nD τ sig (Elt F) Λ₀ (.scVector ((i 0).castLE hcore0) ((i 1).castLE hsub0))) α}
    (p n : ℕ) {c : BitVec 1} (hc : c = 1#1 ↔ p ≠ 0) (buf : Memref sig .scVector .vmem S2x8192 .f32) (sem : DmaSems sig S_)
    {O : CellTallies nD τ sig (HIx 1)} {W : Waits sig (HIx 1)} (hO : ∀ g, O g none = 0) {dec : Decidable (c = 1#1)}
    {o : Fin 3 → ℕ} {inb : c = 1#1 → ∀ a, o a + (Block 2).size a ≤ S32x128x8192.size a}
    {hs : ∀ (h : c = 1#1) (a), (Rect.unit (s := S32x128x8192) o (Block 2).size (inb h)).stride a = 1}
    {hq : (Block 2).Squeezes (Rows 2)} {h₁ : c = 1#1 → buf.view.WordExact} {h₂ : (h : c = 1#1) → (slab oV o (inb h) (hs h) hq).view.WordExact} :
    iprop(levAts (K (F := F)).L (K (F := F)).lev ∗ slot d i G p buf sem n ∗ oPts d i (rng (row i) 0 n) G ∗ owing d i O W)
      ⊢ iprop((iprop(free d i buf sem ∗ oPts d i (rng (row i) 0 (landed p n)) G ∗ owing d i O W)
          -∗ wp frame (wpE (defs₀ (F := F)) 𝒱₀ (thr d i) none) Set.univ rest Q)
        -∗ wp frame (wpE (defs₀ (F := F)) 𝒱₀ (thr d i) none) Set.univ
            (@dite _ (c = 1#1) dec (fun h => .op (.waitDma2 sem.sem buf (slab oV o (inb h) (hs h) hq) (h₁ h) (h₂ h)) fun _ => rest) fun _ => rest) Q) := by
  unfold slot landed
  by_cases hp : p = 0
  · rw [dif_neg (fun h => hc.mp h hp), if_pos hp, if_pos hp]
    iintro ⟨-, H⟩ Hk
    iapply Hk $$ H
  · rw [dif_pos (hc.mpr hp), if_neg hp, if_neg hp]
    exact wait_out d i G n buf sem hO (k := fun _ => rest)

end Cert.Proof.SC
-- ==== Proof.Tile.lean ====
/-
  One task of the kernel: the row of indices is fetched, then in sixteen trips the rows of the
  argument come in four at a time and the gathered rows go out two at a time, each pair of
  scratches taking turns. The task ends with every row of its part of the result gathered.
-/
module

public import proofs.«01_k».proof.Proof.Copies

@[expose] public section

noncomputable section

namespace Cert.Proof.SC

open Cert.KernelIdeal Cert.KernelIdeal.Gen Cert.Proof.Spec

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F]

local notation "𝕄" => MT nD τ sig (HIx 1) (Elt F) ℕ UU ℕ

/-! ## What the conditions of a trip say -/

theorem trips_t1 : k0_t1_loop.trips = 16 := by decide
theorem cond1 : ∀ p, k0_cond1 p = 1#1 := by decide +kernel
theorem cond2 : ∀ p, k0_cond2 p = 1#1 ↔ p.val ≠ 0 := by decide +kernel
theorem cond3 : ∀ p, k0_cond3 p = 1#1 ↔ p.val ≠ 0 := by decide +kernel
theorem cond4 : ∀ p, k0_cond4 p = 1#1 ↔ p.val < 15 := by decide +kernel
theorem cond5 : ∀ p, k0_cond5 p = 1#1 := by decide +kernel
theorem cond6 : ∀ p, k0_cond6 p = 1#1 := by decide +kernel
theorem off14 : ∀ (i : grid0.Coords) (p : Fin k0_t1_loop.trips), k0_off14 i p = ![2 * (i 1).val + (i 0).val, 8 * p.val + 8, 0] := by decide +kernel

variable (d : Dev nD) (i : grid0.Coords) (X o₀ : S32x128x8192.Idx → F .f32) (I : S32x8192.Idx → BitVec 32)

section Steps
variable {α : Type} {Q : α → sProp (MT nD τ sig (HIx 1) (Elt F) ℕ UU ℕ)}

/-- Fetching the row of indices: the copy and the wait for it. -/
theorem fetch {k : PUnit → Prog (TpuEff nD τ sig (Elt F) Λ₀ (.scVector ((i 0).castLE hcore0) ((i 1).castLE hsub0))) α}
    (buf : Memref sig .scVector .vmem S8192 .i32) (sem : DmaSems sig S_)
    {O : CellTallies nD τ sig (HIx 1)} {W : Waits sig (HIx 1)} (hO : ∀ g, O g none = 0) {srcw : Memref sig .scVector .hbm S8192 .i32}
    {o : Fin 2 → ℕ} {inb : ∀ a, o a + S1x8192.size a ≤ S32x8192.size a}
    {hs : ∀ a, (Rect.unit (s := S32x8192) o S1x8192.size inb).stride a = 1}
    (ho : o = ![(row i).val, 0]) {h₁ : (islab o inb hs).view.WordExact} {h₂ : buf.view.WordExact}
    {h₃ : DmaTarget.Typed (nD := nD) .hbm (.dma sem.sem) (.here (p := (thr d i).2) buf)} {h₄ : srcw.view.WordExact} {h₅ : buf.view.WordExact} :
    iprop(levAts (K (F := F)).L (K (F := F)).lev ∗ free d i buf sem ∗ iPts d i (irng (row i)) I ∗ owing d i O W)
      ⊢ iprop((iprop(owns (thr d i) buf fullShare (idxRow (row i) I) ∗ semVal (thr d i, .dma sem.sem) 0 ∗ iPts d i (irng (row i)) I ∗ owing d i O W)
          -∗ wp frame (wpE (defs₀ (F := F)) 𝒱₀ (thr d i) none) Set.univ (k ⟨⟩) Q)
        -∗ wp frame (wpE (defs₀ (F := F)) 𝒱₀ (thr d i) none) Set.univ
            (.op (.enqueueDma (islab o inb hs) (.here buf) (.dma sem.sem) h₁ h₂ h₃) fun _ => .op (.waitDma2 sem.sem srcw buf h₄ h₅) k) Q) := by
  unfold free owing
  have hset : (iprop((islab o inb hs).view.loc (thr d i) ↦[(islab o inb hs).view.set]{fullShare} I) : sProp 𝕄) = iPts d i (irng (row i)) I := by
    rw [set_i (row i) o inb hs ho]; rfl
  have hland (f : Buf (Elt F) (buf.view.loc (thr d i))) :
      (iprop((buf.view.loc (thr d i) ↦[buf.view.set]{fullShare} buf.view.write (Elt F) f ((islab o inb hs).view.read (Elt F) I) Finset.univ)
        ∗ (islab o inb hs).view.loc (thr d i) ↦[(islab o inb hs).view.set]{fullShare} I) : sProp 𝕄)
      ⊢ iprop(owns (thr d i) buf fullShare (idxRow (row i) I) ∗ iPts d i (irng (row i)) I) := by
    have hr := View.read_write_univ (v := buf.view) f ((islab o inb hs).view.read (Elt F) I)
    rw [hset, ← read_i (row i) o inb hs ho (Val := Elt F) I]
    iintro ⟨Hb, Hx⟩
    isplitl [Hb]
    · have ho := owns_intro (U := UU) (Ix := HIx 1) (Name := ℕ) (Lvl := ℕ) (thr d i) buf fullShare
        (buf.view.write (Elt F) f ((islab o inb hs).view.read (Elt F) I) Finset.univ)
      rw [hr] at ho
      iapply ho $$ Hb
    · iexact Hx
  iintro ⟨#Hlv, ⟨⟨%g, Hb⟩, Hv⟩, Hx, %W', %hW', HO⟩ Hk
  ihave Hb' := (owns_open d i buf g) $$ Hb
  icases Hb' with ⟨%f, -, Hb⟩
  ihave Hx' := (Entails.of_eq hset.symm) $$ Hx
  iapply (Transfers.wp_dmaLocal EC 𝒱₀ (thr d i) none (none : HIx 1) buf.view.dmaCredit rfl (pos1 buf) (Finset.Subset.refl _)) $$ [Hx' Hb Hv]
  · isplitl [Hx']; · iexact Hx'
    isplitl [Hb]; · iexact Hb
    iexact Hv
  iintro Hf
  ihave Hf' := (Transfers.Flight_mono EC (thr d i) (hland f)) $$ Hf
  iapply (Transfers.wp_waitLocalO EC 𝒱₀ (thr d i) none (none : HIx 1) (N := buf.view.dmaCredit) rfl) $$ [Hf' HO]
  · isplitl [Hf']; · iexact Hf'
    isplitl [HO]; · iexact HO
    iapply ((K (F := F)).mayWait_none (SemLoc.dma sem.sem) hO); iexact Hlv
  iintro ⟨⟨Hb, Hx⟩, Hv, HO⟩
  iapply Hk
  isplitl [Hb]; · iexact Hb
  isplitl [Hv]; · iexact Hv
  isplitl [Hx]; · iexact Hx
  iexists _; isplitr
  rotate_left
  · iexact HO
  · ipureintro
    intro p hp
    rcases Finset.mem_insert.mp hp with rfl | hp
    · exact Or.inr rfl
    · exact hW' p hp

/-- Gathering rows `n + 2 r` and the next one, from the four rows at `n`. -/
theorem gather {kk : Unit → Prog (TpuEff nD τ sig (Elt F) Λ₀ (.scVector ((i 0).castLE hcore0) ((i 1).castLE hsub0))) α}
    (hI : ∀ j, (I j).toNat < 8192) (n : ℕ) (r : Fin 2) {w₀ w₁ : BitVec 32} (hw₀ : w₀.toNat = 2 * r.val) (hw₁ : w₁.toNat = 2 * r.val + 1)
    (ix : Memref sig .scVector .vmem S8192 .i32) (src : Memref sig .scVector .vmem S4x8192 .f32) (dst : Memref sig .scVector .vmem S2x8192 .f32) (sem : DmaSems sig S_) :
    iprop(owns (thr d i) ix fullShare (idxRow (row i) I) ∗ owns (thr d i) src fullShare (rows (row i) n 4 X) ∗ free d i dst sem)
      ⊢ iprop((iprop(owns (thr d i) ix fullShare (idxRow (row i) I) ∗ owns (thr d i) src fullShare (rows (row i) n 4 X)
              ∗ owns (thr d i) dst fullShare (rows (row i) (n + 2 * r.val) 2 (gathered X I)) ∗ semVal (thr d i, .dma sem.sem) 0)
            -∗ wp frame (wpE (defs₀ (F := F)) 𝒱₀ (thr d i) none) Set.univ (kk ⟨⟩) Q)
          -∗ wp frame (wpE (defs₀ (F := F)) 𝒱₀ (thr d i) none) Set.univ
              (Scf.Loop.for k0_t2_loop k0_t2_ok ⟨⟩ (trip (F := F) i ix src dst w₀ w₁) >>= kk) Q) := by
  have h := loop_ok (F := F) d i ix src dst (idxRow (row i) I) (rows (row i) n 4 X) r (fun t => hI _) w₀ w₁ hw₀ hw₁ (kk := kk) (Q := Q)
  rw [pair_rows] at h
  unfold free
  iintro ⟨HI, HR, HD, Hv⟩ Hk
  iapply h $$ [HI HR HD]
  · isplitl [HI]; · iexact HI
    isplitl [HR]; · iexact HR
    iexact HD
  iintro ⟨HI, HR, HD⟩
  iapply Hk
  isplitl [HI]; · iexact HI
  isplitl [HR]; · iexact HR
  isplitl [HD]; · iexact HD
  iexact Hv

end Steps

/-! ## A trip -/

section Trip
variable (O : CellTallies nD τ sig (HIx 1)) (W : Waits sig (HIx 1))

/-- The scratch the trips start from: the four rows trip `p` is to gather on their way, none after the last trip. -/
def inA (p : ℕ) : sProp 𝕄 :=
  if p < 16 then iprop(flyIn d i X sA cc0_scratch5 (8 * p) ∗ xRest d i X (8 * p)) else iprop(free d i sA cc0_scratch5 ∗ xPts d i (rng (row i) 0 128) X)

/-- The copy in a trip issues for the next one, which the last trip does not. -/
theorem start_next {α : Type} {Q : α → sProp (MT nD τ sig (HIx 1) (Elt F) ℕ UU ℕ)}
    {rest : Prog (TpuEff nD τ sig (Elt F) Λ₀ (.scVector ((i 0).castLE hcore0) ((i 1).castLE hsub0))) α}
    (p : ℕ) {c : BitVec 1} (hc : c = 1#1 ↔ p < 15) {dec : Decidable (c = 1#1)}
    {o : Fin 3 → ℕ} {inb : c = 1#1 → ∀ a, o a + (Block 4).size a ≤ S32x128x8192.size a}
    {hs : ∀ (h : c = 1#1) (a), (Rect.unit (s := S32x128x8192) o (Block 4).size (inb h)).stride a = 1}
    {hq : (Block 4).Squeezes (Rows 4)} (ho : o = ![(row i).val, 8 * p + 8, 0]) {h₁ : (h : c = 1#1) → (slab xV o (inb h) (hs h) hq).view.WordExact}
    {h₂ : c = 1#1 → (sA : Memref sig .scVector .vmem S4x8192 .f32).view.WordExact}
    {h₃ : c = 1#1 → DmaTarget.Typed (nD := nD) .hbm (.dma cc0_scratch5.sem) (.here (p := (thr d i).2) sA)} :
    iprop(free d i sA cc0_scratch5 ∗ xPts d i (rng (row i) 0 128) X)
      ⊢ iprop((inA d i X (p + 1) -∗ wp frame (wpE (defs₀ (F := F)) 𝒱₀ (thr d i) none) Set.univ rest Q)
        -∗ wp frame (wpE (defs₀ (F := F)) 𝒱₀ (thr d i) none) Set.univ
            (@dite _ (c = 1#1) dec (fun h => .op (.enqueueDma (slab xV o (inb h) (hs h) hq) (.here sA) (.dma cc0_scratch5.sem) (h₁ h) (h₂ h) (h₃ h)) fun _ => rest)
              fun _ => rest) Q) := by
  unfold inA
  by_cases hp : p < 15
  · rw [dif_pos (hc.mpr hp), if_pos (show p + 1 < 16 by omega)]
    exact start_in d i X (8 * p + 8) (by omega) sA cc0_scratch5 ho (k := fun _ => rest)
  · rw [dif_neg (fun h => hp (hc.mp h)), if_neg (show ¬ p + 1 < 16 by omega)]
    iintro H Hk
    iapply Hk $$ H

/-- Before trip `p`. -/
def inv (p : ℕ) : sProp 𝕄 :=
  iprop(owing d i O W ∗ owns (thr d i) sI fullShare (idxRow (row i) I) ∗ inA d i X p ∗ free d i sB cc0_scratch6
    ∗ slot d i (gathered X I) p sC cc0_scratch7 (8 * p - 4) ∗ slot d i (gathered X I) p sD cc0_scratch8 (8 * p - 2)
    ∗ oPts d i (rng (row i) 0 (8 * p - 4)) (gathered X I) ∗ oPts d i (rng (row i) (8 * p) 128) o₀)

/-- Within trip `p`, once the first four rows are gathered: the last two of them are still to be sent. -/
def mid₁ (p : ℕ) : sProp 𝕄 :=
  iprop(owing d i O W ∗ owns (thr d i) sI fullShare (idxRow (row i) I) ∗ free d i sA cc0_scratch5
    ∗ (flyIn d i X sB cc0_scratch6 (8 * p + 4) ∗ xRest d i X (8 * p + 4))
    ∗ flyOut d i (gathered X I) sC cc0_scratch7 (8 * p)
    ∗ (owns (thr d i) sD fullShare (rows (row i) (8 * p + 2) 2 (gathered X I)) ∗ semVal (thr d i, .dma cc0_scratch8.sem) 0)
    ∗ oPts d i (rng (row i) 0 (8 * p)) (gathered X I) ∗ oPts d i (rng (row i) (8 * p + 2) 128) o₀)

/-- Within trip `p`, once all eight rows are gathered: the last two of them are still to be sent. -/
def mid₂ (p : ℕ) : sProp 𝕄 :=
  iprop(owing d i O W ∗ owns (thr d i) sI fullShare (idxRow (row i) I) ∗ inA d i X (p + 1) ∗ free d i sB cc0_scratch6
    ∗ flyOut d i (gathered X I) sC cc0_scratch7 (8 * p + 4)
    ∗ (owns (thr d i) sD fullShare (rows (row i) (8 * p + 6) 2 (gathered X I)) ∗ semVal (thr d i, .dma cc0_scratch8.sem) 0)
    ∗ oPts d i (rng (row i) 0 (8 * p + 4)) (gathered X I) ∗ oPts d i (rng (row i) (8 * p + 6) 128) o₀)

variable {O W} (hO : ∀ g, O g none = 0) (hI : ∀ j, (I j).toNat < 8192) (c c' : BitVec 32) (p : Fin k0_t1_loop.trips)

theorem landed_C (n : ℕ) : landed n (8 * n - 4) = 8 * n - 2 := by unfold landed; split <;> omega
theorem landed_D (n : ℕ) : landed n (8 * n - 2) = 8 * n := by unfold landed; split <;> omega

include hO hI

set_option maxHeartbeats 4000000 in
theorem part1_ok : iprop(levAts (K (F := F)).L (K (F := F)).lev ∗ inv d i X o₀ I O W p.val)
    ⊢ wp frame (wpE (defs₀ (F := F)) 𝒱₀ (thr d i) none) Set.univ
        (k0_part1 (F := F) i xV (Memref.isWhole_whole _) iV (Memref.isWhole_whole _) oV (Memref.isWhole_whole _) sI (Memref.isWhole_whole _)
          sA (Memref.isWhole_whole _) sB (Memref.isWhole_whole _) sC (Memref.isWhole_whole _) sD (Memref.isWhole_whole _)
          cc0_scratch5 cc0_scratch6 cc0_scratch7 cc0_scratch8 cc0_scoped0 c c' p)
        fun _ => iprop(levAts (K (F := F)).L (K (F := F)).lev ∗ mid₁ d i X o₀ I O W p.val) := by
  have hp : p.val < 16 := p.isLt
  rw [k0_part1_eq_skeleton]
  unfold k0_part1_skel inv inA
  rw [if_pos hp]
  simp only [Prog.lift, Prog.bind_op, Prog.bind_ret, Prog.pure_eq_ret, Prog.bind_assoc, t2_eq, t3_eq]
  iintro ⟨#Hlv, HO, HI, HA, HB, HC, HD, Hdone, Hrest⟩
  iapply (wait_in d i X (8 * p.val) (by omega) sA cc0_scratch5 hO) $$ [HO HA]
  · isplitr; · iexact Hlv
    isplitl [HA]; · iexact HA
    iexact HO
  iintro ⟨HA, HvA, Hx, HO⟩
  rw [dif_pos (cond1 p)]
  iapply (start_in d i X (8 * p.val + 4) (by omega) sB cc0_scratch6 (k0_off4_eq i p)) $$ [HB Hx]
  · isplitl [HB]; · iexact HB
    iexact Hx
  iintro HB
  iapply (wait_slot d i (gathered X I) p.val (8 * p.val - 4) (cond2 p) sC cc0_scratch7 hO) $$ [HC Hdone HO]
  · isplitr; · iexact Hlv
    isplitl [HC]; · iexact HC
    isplitl [Hdone]; · iexact Hdone
    iexact HO
  iintro ⟨HC, Hdone, HO⟩
  iapply (gather d i X I hI (8 * p.val) 0 rfl rfl sI sA sC cc0_scratch7) $$ [HI HA HC]
  · isplitl [HI]; · iexact HI
    isplitl [HA]; · iexact HA
    iexact HC
  iintro ⟨HI, HA, HC, HvC⟩
  iapply (start_out d i (gathered X I) o₀ (8 * p.val) (by omega) sC cc0_scratch7 (k0_off9_eq i p 0 0)) $$ [HC HvC Hrest]
  · isplitl [HC]; · iexact HC
    isplitl [HvC]; · iexact HvC
    iexact Hrest
  iintro ⟨HC, Hrest⟩
  rw [landed_C]
  iapply (wait_slot d i (gathered X I) p.val (8 * p.val - 2) (cond3 p) sD cc0_scratch8 hO) $$ [HD Hdone HO]
  · isplitr; · iexact Hlv
    isplitl [HD]; · iexact HD
    isplitl [Hdone]; · iexact Hdone
    iexact HO
  iintro ⟨HD, Hdone, HO⟩
  rw [landed_D]
  iapply (gather d i X I hI (8 * p.val) 1 rfl rfl sI sA sD cc0_scratch8) $$ [HI HA HD]
  · isplitl [HI]; · iexact HI
    isplitl [HA]; · iexact HA
    iexact HD
  iintro ⟨HI, HA, HD, HvD⟩
  rw [wp_ret]; imodintro
  unfold mid₁ free
  isplitr; · iexact Hlv
  isplitl [HO]; · iexact HO
  isplitl [HI]; · iexact HI
  isplitl [HA HvA]
  · isplitl [HA]
    · iexists _; iexact HA
    · iexact HvA
  isplitl [HB]; · iexact HB
  isplitl [HC]; · iexact HC
  isplitl [HD HvD]
  · isplitl [HD]; · iexact HD
    iexact HvD
  isplitl [Hdone]; · iexact Hdone
  iexact Hrest

set_option maxHeartbeats 4000000 in
theorem part2_ok (v : BitVec 32) : iprop(levAts (K (F := F)).L (K (F := F)).lev ∗ mid₁ d i X o₀ I O W p.val)
    ⊢ wp frame (wpE (defs₀ (F := F)) 𝒱₀ (thr d i) none) Set.univ
        (k0_part2 (F := F) i xV (Memref.isWhole_whole _) iV (Memref.isWhole_whole _) oV (Memref.isWhole_whole _) sI (Memref.isWhole_whole _)
          sA (Memref.isWhole_whole _) sB (Memref.isWhole_whole _) sC (Memref.isWhole_whole _) sD (Memref.isWhole_whole _)
          cc0_scratch5 cc0_scratch6 cc0_scratch7 cc0_scratch8 cc0_scoped0 p v)
        fun _ => iprop(levAts (K (F := F)).L (K (F := F)).lev ∗ mid₂ d i X o₀ I O W p.val) := by
  have hp : p.val < 16 := p.isLt
  rw [k0_part2_eq_skeleton]
  unfold k0_part2_skel mid₁
  simp only [Prog.lift, Prog.bind_op, Prog.bind_ret, Prog.pure_eq_ret, Prog.bind_assoc, t4_eq, t5_eq]
  iintro ⟨#Hlv, HO, HI, HA, HB, HC, ⟨HD, HvD⟩, Hdone, Hrest⟩
  iapply (start_out d i (gathered X I) o₀ (8 * p.val + 2) (by omega) sD cc0_scratch8 (k0_off9_eq i p 0 1)) $$ [HD HvD Hrest]
  · isplitl [HD]; · iexact HD
    isplitl [HvD]; · iexact HvD
    iexact Hrest
  iintro ⟨HD, Hrest⟩
  iapply (wait_in d i X (8 * p.val + 4) (by omega) sB cc0_scratch6 hO) $$ [HO HB]
  · isplitr; · iexact Hlv
    isplitl [HB]; · iexact HB
    iexact HO
  iintro ⟨HB, HvB, Hx, HO⟩
  iapply (start_next d i X p.val (cond4 p) (off14 i p)) $$ [HA Hx]
  · isplitl [HA]; · iexact HA
    iexact Hx
  iintro HA
  rw [dif_pos (cond5 p)]
  iapply (wait_out d i (gathered X I) (8 * p.val) sC cc0_scratch7 hO) $$ [HC Hdone HO]
  · isplitr; · iexact Hlv
    isplitl [HC]; · iexact HC
    isplitl [Hdone]; · iexact Hdone
    iexact HO
  iintro ⟨HC, Hdone, HO⟩
  iapply (gather d i X I hI (8 * p.val + 4) 0 rfl rfl sI sB sC cc0_scratch7) $$ [HI HB HC]
  · isplitl [HI]; · iexact HI
    isplitl [HB]; · iexact HB
    iexact HC
  iintro ⟨HI, HB, HC, HvC⟩
  iapply (start_out d i (gathered X I) o₀ (8 * p.val + 4) (by omega) sC cc0_scratch7 (k0_off9_eq i p 1 0)) $$ [HC HvC Hrest]
  · isplitl [HC]; · iexact HC
    isplitl [HvC]; · iexact HvC
    iexact Hrest
  iintro ⟨HC, Hrest⟩
  rw [dif_pos (cond6 p)]
  iapply (wait_out d i (gathered X I) (8 * p.val + 2) sD cc0_scratch8 hO) $$ [HD Hdone HO]
  · isplitr; · iexact Hlv
    isplitl [HD]; · iexact HD
    isplitl [Hdone]; · iexact Hdone
    iexact HO
  iintro ⟨HD, Hdone, HO⟩
  iapply (gather d i X I hI (8 * p.val + 4) 1 rfl rfl sI sB sD cc0_scratch8) $$ [HI HB HD]
  · isplitl [HI]; · iexact HI
    isplitl [HB]; · iexact HB
    iexact HD
  iintro ⟨HI, HB, HD, HvD⟩
  rw [wp_ret]; imodintro
  unfold mid₂ free
  isplitr; · iexact Hlv
  isplitl [HO]; · iexact HO
  isplitl [HI]; · iexact HI
  isplitl [HA]; · iexact HA
  isplitl [HB HvB]
  · isplitl [HB]
    · iexists _; iexact HB
    · iexact HvB
  isplitl [HC]; · iexact HC
  isplitl [HD HvD]
  · isplitl [HD]; · iexact HD
    iexact HvD
  isplitl [Hdone]; · iexact Hdone
  iexact Hrest

set_option maxHeartbeats 4000000 in
/-- A whole trip. -/
theorem trip_step : iprop(levAts (K (F := F)).L (K (F := F)).lev ∗ inv d i X o₀ I O W p.val)
    ⊢ wp frame (wpE (defs₀ (F := F)) 𝒱₀ (thr d i) none) Set.univ
        (k0_t1_body (F := F) i xV (Memref.isWhole_whole _) iV (Memref.isWhole_whole _) oV (Memref.isWhole_whole _) sI (Memref.isWhole_whole _)
          sA (Memref.isWhole_whole _) sB (Memref.isWhole_whole _) sC (Memref.isWhole_whole _) sD (Memref.isWhole_whole _)
          cc0_scratch5 cc0_scratch6 cc0_scratch7 cc0_scratch8 cc0_scoped0 p ⟨⟩)
        fun _ => iprop(levAts (K (F := F)).L (K (F := F)).lev ∗ inv d i X o₀ I O W (p.val + 1)) := by
  have hp : p.val < 16 := p.isLt
  unfold k0_t1_body
  simp only [wp_bind]
  refine (part1_ok d i X o₀ I hO hI _ _ p).trans (wp_mono _ _ _ fun v => (part2_ok d i X o₀ I hO hI p v).trans (wp_mono _ _ _ fun _ => ?_))
  simp only [Prog.lift, Prog.pure_eq_ret]
  unfold mid₂
  iintro ⟨#Hlv, HO, HI, HA, HB, HC, ⟨HD, HvD⟩, Hdone, Hrest⟩
  iapply (start_out d i (gathered X I) o₀ (8 * p.val + 6) (by omega) sD cc0_scratch8 (k0_off9_eq i p 1 1)) $$ [HD HvD Hrest]
  · isplitl [HD]; · iexact HD
    isplitl [HvD]; · iexact HvD
    iexact Hrest
  iintro ⟨HD, Hrest⟩
  simp only [wp_ret]
  imodintro; imodintro
  isplitr; · iexact Hlv
  unfold inv slot
  rw [if_neg (show ¬ p.val + 1 = 0 by omega), if_neg (show ¬ p.val + 1 = 0 by omega), show 8 * (p.val + 1) - 4 = 8 * p.val + 4 by omega,
    show 8 * (p.val + 1) - 2 = 8 * p.val + 6 by omega, show 8 * (p.val + 1) = 8 * p.val + 6 + 2 by omega]
  isplitl [HO]; · iexact HO
  isplitl [HI]; · iexact HI
  isplitl [HA]; · iexact HA
  isplitl [HB]; · iexact HB
  isplitl [HC]; · iexact HC
  isplitl [HD]; · iexact HD
  isplitl [Hdone]; · iexact Hdone
  iexact Hrest

/-- What a task holds before it runs, and after: its rows of the three arrays, the result's at `f`, its scratches free. -/
def holds (f : S32x128x8192.Idx → F .f32) : sProp 𝕄 :=
  iprop(owing d i O W ∗ xPts d i (rng (row i) 0 128) X ∗ iPts d i (irng (row i)) I ∗ oPts d i (rng (row i) 0 128) f
    ∗ free d i sI cc0_scoped0 ∗ free d i sA cc0_scratch5 ∗ free d i sB cc0_scratch6 ∗ free d i sC cc0_scratch7 ∗ free d i sD cc0_scratch8)

omit hO hI in
theorem inv_zero : iprop(owing d i O W ∗ owns (thr d i) sI fullShare (idxRow (row i) I) ∗ (flyIn d i X sA cc0_scratch5 0 ∗ xRest d i X 0)
    ∗ free d i sB cc0_scratch6 ∗ free d i sC cc0_scratch7 ∗ free d i sD cc0_scratch8 ∗ oPts d i (rng (row i) 0 128) o₀)
      ⊢ inv d i X o₀ I O W 0 := by
  unfold inv inA slot
  rw [if_pos (show 0 < 16 by omega), if_pos rfl, if_pos rfl]
  have hz : (iprop(emp) : sProp 𝕄) ⊢ oPts d i (rng (row i) 0 (8 * 0 - 4)) (gathered X I) := by
    unfold oPts
    rw [show 8 * 0 - 4 = 0 from rfl, rng_empty]
    exact Entails.of_eq pointsTo_empty.symm
  iintro ⟨HO, HI, HA, HB, HC, HD, Hrest⟩
  isplitl [HO]; · iexact HO
  isplitl [HI]; · iexact HI
  isplitl [HA]; · iexact HA
  isplitl [HB]; · iexact HB
  isplitl [HC]; · iexact HC
  isplitl [HD]; · iexact HD
  isplitr
  · iapply hz
    iempintro
  iexact Hrest

omit hO hI in
theorem inv_last {n : ℕ} (hn : n = 16) : inv d i X o₀ I O W n
    ⊢ iprop(owing d i O W ∗ owns (thr d i) sI fullShare (idxRow (row i) I) ∗ (free d i sA cc0_scratch5 ∗ xPts d i (rng (row i) 0 128) X)
      ∗ free d i sB cc0_scratch6 ∗ flyOut d i (gathered X I) sC cc0_scratch7 124 ∗ flyOut d i (gathered X I) sD cc0_scratch8 126
      ∗ oPts d i (rng (row i) 0 124) (gathered X I)) := by
  subst hn
  unfold inv inA slot
  rw [if_neg (show ¬ 16 < 16 by omega), if_neg (show ¬ 16 = 0 by omega), if_neg (show ¬ 16 = 0 by omega)]
  iintro ⟨HO, HI, HA, HB, HC, HD, Hdone, -⟩
  isplitl [HO]; · iexact HO
  isplitl [HI]; · iexact HI
  isplitl [HA]; · iexact HA
  isplitl [HB]; · iexact HB
  isplitl [HC]; · iexact HC
  isplitl [HD]; · iexact HD
  iexact Hdone

set_option maxHeartbeats 4000000 in
/-- The whole task. -/
theorem task_ok : iprop(levAts (K (F := F)).L (K (F := F)).lev ∗ holds d i X I (O := O) (W := W) o₀)
    ⊢ wp frame (wpE (defs₀ (F := F)) 𝒱₀ (thr d i) none) Set.univ
        (cc0__jitter_sc (F := F) i xV (Memref.isWhole_whole _) iV (Memref.isWhole_whole _) oV (Memref.isWhole_whole _) sI (Memref.isWhole_whole _)
          sA (Memref.isWhole_whole _) sB (Memref.isWhole_whole _) sC (Memref.isWhole_whole _) sD (Memref.isWhole_whole _)
          cc0_scratch5 cc0_scratch6 cc0_scratch7 cc0_scratch8 cc0_scoped0)
        fun _ => holds d i X I (O := O) (W := W) (gathered X I) := by
  rw [cc0__jitter_sc_eq_skeleton]
  unfold cc0__jitter_sc_skel holds
  simp only [Prog.lift, Prog.bind_op, Prog.bind_ret, Prog.pure_eq_ret, Prog.bind_assoc]
  iintro ⟨#Hlv, HO, Hx, Hi, Ho, HI, HA, HB, HC, HD⟩
  iapply (fetch d i I sI cc0_scoped0 hO (k0_off1_eq i)) $$ [HO Hi HI]
  · isplitr; · iexact Hlv
    isplitl [HI]; · iexact HI
    isplitl [Hi]; · iexact Hi
    iexact HO
  iintro ⟨HI, HvI, Hi, HO⟩
  iapply (start_in d i X 0 (by omega) sA cc0_scratch5 (k0_off2_eq i)) $$ [HA Hx]
  · isplitl [HA]; · iexact HA
    iexact Hx
  iintro HA
  iapply (Scf.wp_for_bind _ _ _ _ _ _ k0_t1_ok ⟨⟩ _
    (fun p _ => iprop(levAts (K (F := F)).L (K (F := F)).lev ∗ inv d i X o₀ I O W p)) (fun p _ => trip_step d i X o₀ I hO hI p)) $$ [HO HI HA HB HC HD Ho]
  · isplitr; · iexact Hlv
    iapply (inv_zero d i X o₀ I (O := O) (W := W))
    isplitl [HO]; · iexact HO
    isplitl [HI]; · iexact HI
    isplitl [HA]; · iexact HA
    isplitl [HB]; · iexact HB
    isplitl [HC]; · iexact HC
    isplitl [HD]; · iexact HD
    iexact Ho
  iintro %acc ⟨-, H⟩
  ihave H' := (inv_last d i X o₀ I (O := O) (W := W) (n := Scf.trips k0_t1_loop.lb k0_t1_loop.ub k0_t1_loop.st) trips_t1) $$ H
  icases H' with ⟨HO, HI, ⟨HA, Hx⟩, HB, HC, HD, Ho⟩
  iapply (wait_out d i (gathered X I) 124 sC cc0_scratch7 hO) $$ [HC Ho HO]
  · isplitr; · iexact Hlv
    isplitl [HC]; · iexact HC
    isplitl [Ho]; · iexact Ho
    iexact HO
  iintro ⟨HC, Ho, HO⟩
  iapply (wait_out d i (gathered X I) 126 sD cc0_scratch8 hO) $$ [HD Ho HO]
  · isplitr; · iexact Hlv
    isplitl [HD]; · iexact HD
    isplitl [Ho]; · iexact Ho
    iexact HO
  iintro ⟨HD, Ho, HO⟩
  rw [wp_ret]; imodintro
  isplitl [HO]; · iexact HO
  isplitl [Hx]; · iexact Hx
  isplitl [Hi]; · iexact Hi
  isplitl [Ho]; · iexact Ho
  isplitl [HI HvI]
  · unfold free
    isplitl [HI]
    · iexists _; iexact HI
    · iexact HvI
  isplitl [HA]; · iexact HA
  isplitl [HB]; · iexact HB
  isplitl [HC]; · iexact HC
  iexact HD

end Trip

end Cert.Proof.SC
-- ==== Proof.Line.lean ====
/-
  Straight lines of host operations, read off a program and compared between two programs.

  Two printed programs that begin with the same host text declare the values of that text at the same places of their
  HBM tables. `Agree n` says that two devices' contents agree at the first `n` places; `Follow` says that two lines of
  operations write the same values at the places they fill, and `Follow.after` that agreement is carried along.
-/
module

public import Idealize.ShloMosaic.Lib.StableHlo.Run

@[expose] public section

namespace Cert.Proof.Line

open Idealize.ShloMosaic Idealize.ShloMosaic.StableHlo Idealize.SL.Sem

variable {nD : Nat} {τ : Topo} {Val : EltTy → Type} {Λ : Labels}
variable {sig sig' : RefSig}

/-- The program `p` is the operations `ops` one after another, then `e`. -/
def IsLine (e p : Prog (TpuEff nD τ sig Val Λ .tc) PUnit) (ops : List (HloOp τ sig Val)) : Prop := p = seqK ops e

theorem IsLine.nil {e : Prog (TpuEff nD τ sig Val Λ .tc) PUnit} : IsLine e e [] := rfl

theorem IsLine.cons {e k : Prog (TpuEff nD τ sig Val Λ .tc) PUnit} {op : HloOp τ sig Val} {ops : List (HloOp τ sig Val)}
    (h : IsLine e k ops) : IsLine e ((hlo rfl op fun _ => .ret (⟨⟩ : PUnit)) >>= fun _ => k) (op :: ops) := by
  unfold IsLine at h ⊢; rw [h]; rfl

/-- A line cut in two. -/
theorem IsLine.append {e e' p : Prog (TpuEff nD τ sig Val Λ .tc) PUnit} {ops ops' : List (HloOp τ sig Val)}
    (h : IsLine e' p ops) (h' : IsLine e e' ops') : IsLine e p (ops ++ ops') := by
  unfold IsLine at h h' ⊢
  rw [h, h', ← seq_bind_seqK, ← seq_bind_seqK, ← seq_bind_seqK, seq_append, bind_assoc]

/-- Two lists of operations with the fact that a program runs them one after the other, as data. -/
def cut {P : Type} {e p : P → Prog (TpuEff nD τ sig Val Λ .tc) PUnit} {o₁ o₂ : List (HloOp τ sig Val)}
    (h : ∀ d, IsLine (e d) (p d) (o₁ ++ o₂)) :
    {o : List (HloOp τ sig Val) × List (HloOp τ sig Val) // ∀ d, IsLine (e d) (p d) (o.1 ++ o.2)} := ⟨(o₁, o₂), h⟩

/-- A line that ends in the return is the sequence of its operations. -/
theorem IsLine.seq {p : Prog (TpuEff nD τ sig Val Λ .tc) PUnit} {ops : List (HloOp τ sig Val)}
    (h : IsLine (pure ⟨⟩) p ops) : p = seq ops := by
  unfold IsLine at h
  rw [h, ← seq_bind_seqK]
  exact bind_pure _

/-! ## Contents that agree at the first places -/

/-- Two references name the same place of the two HBM tables, before place `n`, at the same type. -/
def Same (n : ℕ) (r : Ref sig .tc) (r' : Ref sig' .tc) : Prop :=
  r.space = .hbm ∧ r'.space = .hbm ∧ r.idx.val = r'.idx.val ∧ r.idx.val < n ∧ r.ty = r'.ty

/-- Two references name place `n` of the two HBM tables, at the same type. -/
def Here (n : ℕ) (r : Ref sig .tc) (r' : Ref sig' .tc) : Prop :=
  r.space = .hbm ∧ r'.space = .hbm ∧ r.idx.val = n ∧ r'.idx.val = n ∧ r.ty = r'.ty

theorem ref_ext {r y : Ref sig .tc} (h : r.space = y.space) (hi : r.idx.val = y.idx.val) : r = y := by
  obtain ⟨s, i, hn⟩ := r
  obtain ⟨s', i', hn'⟩ := y
  cases h
  cases Fin.ext hi
  rfl

/-- Two devices' contents agree at every place before `n`. -/
def Agree (n : ℕ) (V : Valuation τ sig Val) (V' : Valuation τ sig' Val) : Prop :=
  ∀ (r : Ref sig .tc) (r' : Ref sig' .tc), Same n r r' → HEq (V (Proc.devRef .tc r)) (V' (Proc.devRef .tc r'))

/-- From contents that agree before place `n`, the two operations leave contents that agree up to place `n`. -/
def Step (n : ℕ) (op : HloOp τ sig Val) (op' : HloOp τ sig' Val) : Prop :=
  ∀ V V', Agree n V V' → Agree (n + 1) (op.result V) (op'.result V')

/-- Operations writing place `n` alone, with the same value there, carry agreement one place on. -/
theorem Step.of_result {n : ℕ} {op : HloOp τ sig Val} {op' : HloOp τ sig' Val} {y : Ref sig .tc} {y' : Ref sig' .tc}
    (hw : op.writes = {Proc.devRef .tc y}) (hw' : op'.writes = {Proc.devRef .tc y'}) (hy : Here n y y')
    (hv : ∀ V V', Agree n V V' → HEq (op.result V (Proc.devRef .tc y)) (op'.result V' (Proc.devRef .tc y'))) :
    Step n op op' := by
  intro V V' hA r r' hr
  obtain ⟨hs, hs', hi, hlt, ht⟩ := hr
  obtain ⟨ys, ys', yi, yi', yt⟩ := hy
  by_cases h : r.idx.val = n
  · obtain rfl : r = y := ref_ext (hs.trans ys.symm) (h.trans yi.symm)
    obtain rfl : r' = y' := ref_ext (hs'.trans ys'.symm) (hi.symm.trans (h.trans yi'.symm))
    exact hv V V' hA
  · rw [result_of_writes_ne op V y r hw (fun e => h (e ▸ yi)),
      result_of_writes_ne op' V' y' r' hw' (fun e => h (hi.trans (e ▸ yi')))]
    exact hA r r' ⟨hs, hs', hi, by omega, ht⟩

/-! ## One step of each kind of operation -/

theorem app_heq {A A' B B' : Type} (hA : A = A') (hB : B = B') {f : A → B} {f' : A' → B'} (hf : HEq f f')
    {a : A} {a' : A'} (ha : HEq a a') : HEq (f a) (f' a') := by
  subst hA; subst hB; cases hf; cases ha; rfl

theorem contents_eq {T T' : BufTy} (h : T = T') : T.Contents Val = T'.Contents Val := h ▸ rfl

theorem fun_eq {A A' B B' : Type} (hA : A = A') (hB : B = B') : (A → B) = (A' → B') := by rw [hA, hB]

theorem shapeCast_heq {X Y X' Y' : BufTy} (hX : X = X') (hY : Y = Y') (he : X.elt = Y.elt) (he' : X'.elt = Y'.elt)
    (hn : X.shape.ShapeCasts Y.shape) (hn' : X'.shape.ShapeCasts Y'.shape) {v : X.Contents Val} {v' : X'.Contents Val}
    (hv : HEq v v') :
    HEq ((fun i => he ▸ shapeCast Y.shape v hn i) : Y.Contents Val) ((fun i => he' ▸ shapeCast Y'.shape v' hn' i) : Y'.Contents Val) := by
  subst hX; subst hY; cases hv; rfl

section Steps

variable {n : ℕ} {x a b c y : Ref sig .tc} {x' a' b' c' y' : Ref sig' .tc}

theorem Step.nullary {v : y.ty.Contents Val} {v' : y'.ty.Contents Val} {hy hy'} (h : Here n y y') (hv : HEq v v') :
    Step n (StableHlo.nullary (τ := τ) y v hy) (StableHlo.nullary (τ := τ) y' v' hy') :=
  .of_result rfl rfl h fun V V' _ => by rw [nullary_result', nullary_result']; exact hv

theorem Step.unary {f : x.ty.Contents Val → y.ty.Contents Val} {f' : x'.ty.Contents Val → y'.ty.Contents Val} {hx hy hx' hy'}
    (h : Here n y y') (sx : Same n x x') (hf : HEq f f') :
    Step n (StableHlo.unary (τ := τ) x y f hx hy) (StableHlo.unary (τ := τ) x' y' f' hx' hy') :=
  .of_result rfl rfl h fun V V' hA => by
    rw [unary_result', unary_result']
    exact app_heq (contents_eq sx.2.2.2.2) (contents_eq h.2.2.2.2) hf (hA _ _ sx)

theorem Step.reshape {he hn hx hy he' hn' hx' hy'} (h : Here n y y') (sx : Same n x x') :
    Step n (StableHlo.reshape (τ := τ) (Val := Val) x y he hn hx hy) (StableHlo.reshape (τ := τ) (Val := Val) x' y' he' hn' hx' hy') :=
  .of_result rfl rfl h fun V V' hA => by
    rw [reshape_result', reshape_result']
    exact shapeCast_heq sx.2.2.2.2 h.2.2.2.2 he he' hn hn' (hA _ _ sx)

theorem Step.binary {f : a.ty.Contents Val → b.ty.Contents Val → y.ty.Contents Val}
    {f' : a'.ty.Contents Val → b'.ty.Contents Val → y'.ty.Contents Val} {ha hb hy ha' hb' hy'}
    (h : Here n y y') (sa : Same n a a') (sb : Same n b b') (hf : HEq f f') :
    Step n (StableHlo.binary (τ := τ) a b y f ha hb hy) (StableHlo.binary (τ := τ) a' b' y' f' ha' hb' hy') :=
  .of_result rfl rfl h fun V V' hA => by
    rw [binary_result', binary_result']
    have ey := contents_eq (Val := Val) h.2.2.2.2
    have eb := contents_eq (Val := Val) sb.2.2.2.2
    exact app_heq eb ey (app_heq (contents_eq sa.2.2.2.2) (fun_eq eb ey) hf (hA _ _ sa)) (hA _ _ sb)

theorem Step.ternary {f : c.ty.Contents Val → a.ty.Contents Val → b.ty.Contents Val → y.ty.Contents Val}
    {f' : c'.ty.Contents Val → a'.ty.Contents Val → b'.ty.Contents Val → y'.ty.Contents Val} {hc ha hb hy hc' ha' hb' hy'}
    (h : Here n y y') (sc : Same n c c') (sa : Same n a a') (sb : Same n b b') (hf : HEq f f') :
    Step n (StableHlo.ternary (τ := τ) c a b y f hc ha hb hy) (StableHlo.ternary (τ := τ) c' a' b' y' f' hc' ha' hb' hy') :=
  .of_result rfl rfl h fun V V' hA => by
    rw [ternary_result', ternary_result']
    have ey := contents_eq (Val := Val) h.2.2.2.2
    have eb := contents_eq (Val := Val) sb.2.2.2.2
    have ea := contents_eq (Val := Val) sa.2.2.2.2
    exact app_heq eb ey (app_heq ea (fun_eq eb ey) (app_heq (contents_eq sc.2.2.2.2) (fun_eq ea (fun_eq eb ey)) hf (hA _ _ sc))
      (hA _ _ sa)) (hA _ _ sb)

theorem Step.quaternary {f : x.ty.Contents Val → c.ty.Contents Val → a.ty.Contents Val → b.ty.Contents Val → y.ty.Contents Val}
    {f' : x'.ty.Contents Val → c'.ty.Contents Val → a'.ty.Contents Val → b'.ty.Contents Val → y'.ty.Contents Val}
    {hx hc ha hb hy hx' hc' ha' hb' hy'}
    (h : Here n y y') (sx : Same n x x') (sc : Same n c c') (sa : Same n a a') (sb : Same n b b') (hf : HEq f f') :
    Step n (StableHlo.quaternary (τ := τ) x c a b y f hx hc ha hb hy)
      (StableHlo.quaternary (τ := τ) x' c' a' b' y' f' hx' hc' ha' hb' hy') :=
  .of_result rfl rfl h fun V V' hA => by
    rw [quaternary_result', quaternary_result']
    have ey := contents_eq (Val := Val) h.2.2.2.2
    have eb := contents_eq (Val := Val) sb.2.2.2.2
    have ea := contents_eq (Val := Val) sa.2.2.2.2
    have ec := contents_eq (Val := Val) sc.2.2.2.2
    exact app_heq eb ey (app_heq ea (fun_eq eb ey) (app_heq ec (fun_eq ea (fun_eq eb ey))
      (app_heq (contents_eq sx.2.2.2.2) (fun_eq ec (fun_eq ea (fun_eq eb ey))) hf (hA _ _ sx)) (hA _ _ sc)) (hA _ _ sa)) (hA _ _ sb)

end Steps

/-! ## Lines that follow each other -/

/-- The line `ops` and the beginning of the line `ops'` fill the places from `n` on, one each, with the same values;
    `rest` is what remains of `ops'`. -/
inductive Follow : ℕ → List (HloOp τ sig Val) → List (HloOp τ sig' Val) → List (HloOp τ sig' Val) → Prop
  | nil {n : ℕ} {rest : List (HloOp τ sig' Val)} : Follow n [] rest rest
  | cons {n : ℕ} {op : HloOp τ sig Val} {op' : HloOp τ sig' Val} {ops : List (HloOp τ sig Val)}
      {ops' rest : List (HloOp τ sig' Val)}
      (h : Step n op op') (t : Follow (n + 1) ops ops' rest) : Follow n (op :: ops) (op' :: ops') rest

theorem Follow.after {n : ℕ} {ops : List (HloOp τ sig Val)} {ops' rest : List (HloOp τ sig' Val)} (h : Follow n ops ops' rest)
    {V : Valuation τ sig Val} {V' : Valuation τ sig' Val} (hA : Agree n V V') :
    ∃ V₁, Agree (n + ops.length) (StableHlo.after ops V) V₁ ∧ StableHlo.after ops' V' = StableHlo.after rest V₁ := by
  induction h generalizing V V' with
  | nil => exact ⟨V', hA, rfl⟩
  | cons h _ ih =>
    obtain ⟨V₁, h₁, h₂⟩ := ih (h V V' hA)
    refine ⟨V₁, ?_, h₂⟩
    rw [after_cons, List.length_cons, ← Nat.add_assoc, Nat.add_right_comm]
    exact h₁

end Cert.Proof.Line

end
-- ==== Proof.HostK.lean ====
/-
  The kernel program's host text as lists of operations: up to the logits of the draw, and from there to the indices.
-/
module

public import proofs.«01_k».proof.Defs
public import proofs.«01_k».proof.Proof.Line

@[expose] public section

noncomputable section

namespace Cert.Proof.HostK

open Idealize.ShloMosaic Idealize.ShloMosaic.StableHlo Idealize.SL.Sem Cert.KernelIdeal Cert.Proof.Line

variable {F : FTy → Type} [FloatOps F] [Cert.KernelIdeal.Facts]

/-- The two lists of host operations, with the fact that `main` runs them and then the SparseCore call. -/
def lines : {p : List (HloOp τ sig (Elt F)) × List (HloOp τ sig (Elt F)) //
    ∀ d, IsLine (sc.run d 0 >>= fun _ => pure ⟨⟩) (main d) (p.1 ++ p.2)} := by
  apply cut
  intro d
  apply IsLine.append
  · iterate 287 apply IsLine.cons
    exact IsLine.nil
  · repeat apply IsLine.cons
    exact IsLine.nil

end Cert.Proof.HostK

end
-- ==== Proof.HostR.lean ====
/-
  The reference program as lists of operations: up to the indices, the text that it shares with the kernel program, and
  the gather along them.
-/
module

public import proofs.«01_k».proof.Defs
public import proofs.«01_k».proof.Proof.Line

@[expose] public section

noncomputable section

namespace Cert.Proof.HostR

open Idealize.ShloMosaic Idealize.ShloMosaic.StableHlo Idealize.SL.Sem Cert.ReferenceIdeal Cert.Proof.Line

variable {F : FTy → Type} [FloatOps F] [Cert.ReferenceIdeal.Facts]

/-- The two lists of the reference's operations, with the fact that `main` runs them. -/
def lines : {p : List (HloOp τ sig (Elt F)) × List (HloOp τ sig (Elt F)) //
    ∀ d : Dev nD, IsLine (pure ⟨⟩) (main d) (p.1 ++ p.2)} := by
  apply cut
  intro d
  apply IsLine.append
  · iterate 325 apply IsLine.cons
    exact IsLine.nil
  · repeat apply IsLine.cons
    exact IsLine.nil

end Cert.Proof.HostR

end
-- ==== Proof.Fine.lean ====
/-
  Host operations that keep to the TensorCore's buffers and leave one named buffer alone.
-/
module

public import proofs.«01_k».proof.Proof.HostK
public import proofs.«01_k».proof.Proof.HostR

@[expose] public section

noncomputable section

namespace Cert.Proof.Fine

open Idealize.ShloMosaic Idealize.ShloMosaic.StableHlo

variable {τ : Topo} {sig : RefSig} {Val : EltTy → Type}

/-- The operation works on the TensorCore's buffers, allocates none, and does not write `r`. -/
structure Fine (r : Ref sig .tc) (op : HloOp τ sig Val) : Prop where
  bufs : op.bufs ⊆ tcRefs τ sig
  fresh : op.fresh = ∅
  skips : Proc.devRef .tc r ∉ op.writes

theorem not_written {r y : Ref sig .tc} (h : r ≠ y) : Proc.devRef (τ := τ) .tc r ∉ ({Proc.devRef (τ := τ) .tc y} : Finset (DevRef τ sig)) :=
  fun hm => h (Proc.devRef_injective _ (Finset.mem_singleton.mp hm))

section
variable {r x a b c y : Ref sig .tc}

theorem Fine.nullary {v : y.ty.Contents Val} {hy} (h : r ≠ y) : Fine r (StableHlo.nullary (τ := τ) y v hy) :=
  ⟨nullary_bufs_sub .., rfl, not_written h⟩

theorem Fine.unary {f : x.ty.Contents Val → y.ty.Contents Val} {hx hy} (h : r ≠ y) : Fine r (StableHlo.unary (τ := τ) x y f hx hy) :=
  ⟨unary_bufs_sub .., rfl, not_written h⟩

theorem Fine.reshape {he hn hx hy} (h : r ≠ y) : Fine r (StableHlo.reshape (τ := τ) (Val := Val) x y he hn hx hy) :=
  ⟨reshape_bufs_sub .., rfl, not_written h⟩

theorem Fine.binary {f : a.ty.Contents Val → b.ty.Contents Val → y.ty.Contents Val} {ha hb hy} (h : r ≠ y) :
    Fine r (StableHlo.binary (τ := τ) a b y f ha hb hy) :=
  ⟨binary_bufs_sub .., rfl, not_written h⟩

theorem Fine.ternary {f : c.ty.Contents Val → a.ty.Contents Val → b.ty.Contents Val → y.ty.Contents Val} {hc ha hb hy} (h : r ≠ y) :
    Fine r (StableHlo.ternary (τ := τ) c a b y f hc ha hb hy) :=
  ⟨ternary_bufs_sub .., rfl, not_written h⟩

theorem Fine.quaternary {f : x.ty.Contents Val → c.ty.Contents Val → a.ty.Contents Val → b.ty.Contents Val → y.ty.Contents Val}
    {hx hc ha hb hy} (h : r ≠ y) : Fine r (StableHlo.quaternary (τ := τ) x c a b y f hx hc ha hb hy) :=
  ⟨quaternary_bufs_sub .., rfl, not_written h⟩

end

/-- A list of such operations leaves the buffer as it was. -/
theorem after_eq {r : Ref sig .tc} {ops : List (HloOp τ sig Val)} (h : ops.Forall (Fine r)) (V : Valuation τ sig Val) :
    after ops V (Proc.devRef .tc r) = V (Proc.devRef .tc r) :=
  after_of_forall_not_mem ops V fun op hop => (List.forall_iff_forall_mem.mp h op hop).skips

theorem cons {r : Ref sig .tc} {op : HloOp τ sig Val} {ops : List (HloOp τ sig Val)} (h : Fine r op) (t : ops.Forall (Fine r)) :
    (op :: ops).Forall (Fine r) :=
  List.forall_cons .. |>.mpr ⟨h, t⟩

variable {F : FTy → Type} [FloatOps F]

set_option maxHeartbeats 40000000 in
set_option maxRecDepth 100000 in
/-- The kernel program's host operations leave the argument alone. -/
theorem fineK [Cert.KernelIdeal.Facts] :
    ((HostK.lines (F := F)).1.1 ++ (HostK.lines (F := F)).1.2).Forall (Fine Cert.KernelIdeal.main_arg0) := by
  unfold HostK.lines Line.cut
  dsimp only [List.cons_append, List.nil_append]
  repeat
    refine cons ?_ ?_
    · first
        | with_reducible refine Fine.nullary ?_
        | with_reducible refine Fine.unary ?_
        | with_reducible refine Fine.binary ?_
        | with_reducible refine Fine.reshape ?_
        | with_reducible refine Fine.ternary ?_
        | with_reducible refine Fine.quaternary ?_
      decide
  exact trivial

set_option maxHeartbeats 40000000 in
set_option maxRecDepth 100000 in
/-- So do the reference's. -/
theorem fineR [Cert.ReferenceIdeal.Facts] :
    ((HostR.lines (F := F)).1.1 ++ (HostR.lines (F := F)).1.2).Forall (Fine Cert.ReferenceIdeal.main_arg0) := by
  unfold HostR.lines Line.cut
  dsimp only [List.cons_append, List.nil_append]
  repeat
    refine cons ?_ ?_
    · first
        | with_reducible refine Fine.nullary ?_
        | with_reducible refine Fine.unary ?_
        | with_reducible refine Fine.binary ?_
        | with_reducible refine Fine.reshape ?_
        | with_reducible refine Fine.ternary ?_
        | with_reducible refine Fine.quaternary ?_
      decide
  exact trivial

end Cert.Proof.Fine

end
-- ==== Proof.Range.lean ====
/-
  The indices that the host text computes: each lies in its row, whatever the logits are.

  A draw's index is 0, 1 or 2, so a step is −1, 0 or 1; column 0 is set to 0 or 1 and column 8191 to −1 or 0; the
  column number plus the step is then a column number.
-/
module

public import proofs.«01_k».proof.Proof.HostK
public import Idealize.ShloMosaic.Lib.StableHlo.RunRead
public import Idealize.ShloMosaic.Lib.Routing.OpsOne
public import Idealize.ShloMosaic.Lib.Routing.OpsOrder

@[expose] public section

noncomputable section

namespace Cert.Proof.Range

open Idealize.ShloMosaic Idealize.ShloMosaic.StableHlo Idealize.ShloMosaic.Routing Idealize.ShloMosaic.ValueIdx
open Cert.KernelIdeal Cert.KernelIdeal.Facts₀

variable {F : FTy → Type} [FloatOps F] [Cert.KernelIdeal.Facts]

/-- The host text's clip of a vector between two words. -/
def clip (lo hi : BitVec 32) (v : IVec S32 32) : IVec S32 32 :=
  minsi (broadcastInDim S32 ![] bcast_S_S32 (constantI S_ 32 hi)) (maxsi (broadcastInDim S32 ![] bcast_S_S32 (constantI S_ 32 lo)) v)

/-- Each draw, less one. -/
def steps (x : FVec F S32x8192x3 .f32) : IVec S32x8192 32 :=
  subi (fun j => (Host.argReduce reducer_argmax_f32_i32 x (iotaInDim S32x8192x3 32 2) (constant S_ .f32 0xFF800000#32)
      (constantI S_ 32 0#32) reducesTo_S32x8192x3_S32x8192_d2 h_S_ j).2)
    (broadcastInDim S32x8192 ![] bcast_S_S32x8192 (constantI S_ 32 1#32))

/-- A table with one of its columns set. -/
def setCol (k : BitVec 32) (x : IVec S32x8192 32) (u : IVec S32 32) : IVec S32x8192 32 :=
  Host.scatter scatter_S32x8192_S1_S32_0_1_1_0 (fun _ b => b) x (broadcastInDim S1 ![] bcast_S_S1 (constantI S_ 32 k)) u

/-- The steps with column 0 clipped. -/
def stepsL (x : FVec F S32x8192x3 .f32) : IVec S32x8192 32 :=
  setCol 0#32 (steps x) (clip 0#32 1#32 (shapeCast S32 (extractStridedSlice S32x1 ![0, 0] (steps x) slices_S32x8192_S32x1_0_0)
    shapeCasts_S32x1_S32))

/-- The steps with columns 0 and 8191 clipped. -/
def stepsLR (x : FVec F S32x8192x3 .f32) : IVec S32x8192 32 :=
  setCol 8191#32 (stepsL x) (clip 4294967295#32 0#32
    (shapeCast S32 (extractStridedSlice S32x1 ![0, 8191] (stepsL x) slices_S32x8192_S32x1_0_8191) shapeCasts_S32x1_S32))

/-- The indices: the steps plus the column numbers. -/
def indices (x : FVec F S32x8192x3 .f32) : IVec S32x8192 32 :=
  addi (stepsLR x) (broadcastInDim S32x8192 ![0, 1] bcast_S1x8192_S32x8192_0_1
    (broadcastInDim S1x8192 ![1] bcast_S8192_S1x8192_1 (iotaInDim S8192 32 0)))

set_option maxHeartbeats 4000000 in
set_option maxRecDepth 100000 in
/-- What the second part of the host text leaves in the indices' buffer. -/
theorem after_indices (V : Valuation τ sig (Elt F)) :
    after (HostK.lines (F := F)).1.2 V (Proc.devRef .tc main_v28) = indices (F := F) (V (Proc.devRef .tc main_v11)) := by
  unfold HostK.lines Line.cut
  dsimp only
  after_reads_simp
  simp only [TRef.ofBuf_toBuf]
  unfold indices stepsLR stepsL steps setCol clip
  simp only [cast_eq, id_eq]
  rfl

/-- A word that is −1, 0 or 1. -/
def Small (v : BitVec 32) : Prop := v = 4294967295#32 ∨ v = 0#32 ∨ v = 1#32

theorem reducer_snd (P : BitVec 32 → Prop) (a b : F .f32 × BitVec 32) (ha : P a.2) (hb : P b.2) :
    P (reducer_argmax_f32_i32 a b).2 := by
  unfold reducer_argmax_f32_i32 Scalar.select
  dsimp only
  split <;> assumption

/-- A draw is below 3. -/
theorem draw_lt (x : FVec F S32x8192x3 .f32) (j : S32x8192.Idx) :
    ((Host.argReduce reducer_argmax_f32_i32 x (iotaInDim S32x8192x3 32 2) (constant S_ .f32 0xFF800000#32)
      (constantI S_ 32 0#32) reducesTo_S32x8192x3_S32x8192_d2 h_S_ j).2).toNat < 3 := by
  have hy : ∀ i : S32x8192x3.Idx, (iotaInDim S32x8192x3 32 2 i).toNat < 3 := fun i => by
    have := (i 2).isLt
    change (BitVec.ofNat 32 (i 2).val).toNat < 3
    rw [BitVec.toNat_ofNat]
    exact lt_of_le_of_lt (Nat.mod_le _ _) this
  have hfib : ∀ p ∈ Host.argReduceFiber x (iotaInDim S32x8192x3 32 2) reducesTo_S32x8192x3_S32x8192_d2 j, p.2.toNat < 3 := by
    intro p hp
    unfold Host.argReduceFiber at hp
    obtain ⟨n, -, rfl⟩ := List.mem_map.mp hp
    exact hy _
  by_cases h : (Host.argReduceNaNs x (iotaInDim S32x8192x3 32 2) reducesTo_S32x8192x3_S32x8192_d2 j).length ≤ 1
  · rw [Host.argReduce_apply_eq_reduce2 _ _ _ _ _ _ _ _ h, Host.reduce2_eq_foldl_fiber]
    have key : ∀ (l : List (F .f32 × BitVec 32)) (a : F .f32 × BitVec 32), a.2.toNat < 3 → (∀ p ∈ l, p.2.toNat < 3) →
        ((l.foldl reducer_argmax_f32_i32 a).2).toNat < 3 := by
      intro l
      induction l with
      | nil => exact fun a ha _ => ha
      | cons p l ih =>
        intro a ha hl
        exact ih _ (reducer_snd (fun v => v.toNat < 3) a p ha (hl p List.mem_cons_self)) fun q hq => hl q (List.mem_cons_of_mem _ hq)
    exact key _ _ (by show (0#32).toNat < 3; decide) hfib
  · exact hfib _ ((Host.mem_argReduceNaNs_iff _ _ _ _ _).mp (Host.argReduce_mem_nans _ _ _ _ _ _ _ _ (by omega))).1

theorem steps_small (x : FVec F S32x8192x3 .f32) (j : S32x8192.Idx) : Small (steps x j) := by
  have h := draw_lt x j
  show Small ((Host.argReduce reducer_argmax_f32_i32 x (iotaInDim S32x8192x3 32 2) (constant S_ .f32 0xFF800000#32)
      (constantI S_ 32 0#32) reducesTo_S32x8192x3_S32x8192_d2 h_S_ j).2 - 1#32)
  revert h
  generalize (Host.argReduce reducer_argmax_f32_i32 x (iotaInDim S32x8192x3 32 2) (constant S_ .f32 0xFF800000#32)
      (constantI S_ 32 0#32) reducesTo_S32x8192x3_S32x8192_d2 h_S_ j).2 = v
  intro h
  have : v = 0#32 ∨ v = 1#32 ∨ v = 2#32 := by
    have h3 : v.toNat = 0 ∨ v.toNat = 1 ∨ v.toNat = 2 := by omega
    rcases h3 with h | h | h
    · exact .inl (BitVec.eq_of_toNat_eq h)
    · exact .inr (.inl (BitVec.eq_of_toNat_eq h))
    · exact .inr (.inr (BitVec.eq_of_toNat_eq h))
  rcases this with rfl | rfl | rfl
  · exact .inl (by decide)
  · exact .inr (.inl (by decide))
  · exact .inr (.inr (by decide))

/-- Clipped between 0 and 1, a small word is 0 or 1. -/
theorem clip_low {v : IVec S32 32} (hv : ∀ i, Small (v i)) (i : S32.Idx) :
    clip 0#32 1#32 v i = 0#32 ∨ clip 0#32 1#32 v i = 1#32 := by
  change IntOp.minsi 1#32 (IntOp.maxsi 0#32 (v i)) = 0#32 ∨ IntOp.minsi 1#32 (IntOp.maxsi 0#32 (v i)) = 1#32
  rcases hv i with h | h | h <;> rw [h] <;> decide

/-- Clipped between −1 and 0, a small word is −1 or 0. -/
theorem clip_high {v : IVec S32 32} (hv : ∀ i, Small (v i)) (i : S32.Idx) :
    clip 4294967295#32 0#32 v i = 4294967295#32 ∨ clip 4294967295#32 0#32 v i = 0#32 := by
  change IntOp.minsi 0#32 (IntOp.maxsi 4294967295#32 (v i)) = 4294967295#32 ∨ IntOp.minsi 0#32 (IntOp.maxsi 4294967295#32 (v i)) = 0#32
  rcases hv i with h | h | h <;> rw [h] <;> decide

/-- A table with a column set, read at an entry. -/
theorem setCol_apply (b : BitVec 32) (k : Fin 8192) (hb : b = BitVec.ofNat 32 k.val) (x : IVec S32x8192 32) (u : IVec S32 32)
    (w : Fin 32) (e : Fin 8192) :
    setCol b x u (ix2 w e) = if e = k then u (ix1 w) else x (ix2 w e) :=
  scatter_col scatter_S32x8192_S1_S32_0_1_1_0 rfl rfl x _ u k (lt_trans k.isLt (by norm_num)) hb w e

theorem stepsL_apply (x : FVec F S32x8192x3 .f32) (w : Fin 32) (e : Fin 8192) :
    Small (stepsL x (ix2 w e)) ∧ (e.val = 0 → stepsL x (ix2 w e) = 0#32 ∨ stepsL x (ix2 w e) = 1#32) := by
  have hc := clip_low (v := shapeCast S32 (extractStridedSlice S32x1 ![0, 0] (steps x) slices_S32x8192_S32x1_0_0)
    shapeCasts_S32x1_S32) (fun i => steps_small x _) (ix1 w)
  rw [stepsL, setCol_apply 0#32 (0 : Fin 8192) rfl]
  by_cases he : e = 0
  · rw [if_pos he]
    exact ⟨.inr hc, fun _ => hc⟩
  · rw [if_neg he]
    exact ⟨steps_small x _, fun h0 => absurd (Fin.ext h0) he⟩

theorem stepsLR_apply (x : FVec F S32x8192x3 .f32) (w : Fin 32) (e : Fin 8192) :
    Small (stepsLR x (ix2 w e)) ∧ (e.val = 0 → stepsLR x (ix2 w e) ≠ 4294967295#32)
      ∧ (e.val = 8191 → stepsLR x (ix2 w e) ≠ 1#32) := by
  have hs : ∀ j : S32x8192.Idx, Small (stepsL x j) := fun j => by
    rw [show j = ix2 (n0 := 32) (n1 := 8192) (j 0) (j 1) from eq_ix2 (n0 := 32) (n1 := 8192) j]
    exact (stepsL_apply x _ _).1
  have hc := clip_high (v := shapeCast S32 (extractStridedSlice S32x1 ![0, 8191] (stepsL x) slices_S32x8192_S32x1_0_8191)
    shapeCasts_S32x1_S32) (fun i => by unfold shapeCast extractStridedSlice; exact hs _) (ix1 w)
  rw [stepsLR]
  rw [setCol_apply 8191#32 (Fin.last 8191) (by decide)]
  by_cases he : e = Fin.last 8191
  · rw [if_pos he]
    refine ⟨hc.elim .inl fun q => .inr (.inl q), fun h0 => ?_, fun _ => ?_⟩
    · rw [he] at h0; exact absurd h0 (by decide)
    · rcases hc with q | q <;> rw [q] <;> decide
  · rw [if_neg he]
    refine ⟨hs _, fun h0 => ?_, fun h1 => absurd (Fin.ext h1) he⟩
    rcases (stepsL_apply x w e).2 h0 with q | q <;> rw [q] <;> decide

/-- Every index is a column number. -/
theorem indices_lt (x : FVec F S32x8192x3 .f32) (j : S32x8192.Idx) : (indices x j).toNat < 8192 := by
  rw [show j = ix2 (n0 := 32) (n1 := 8192) (j 0) (j 1) from eq_ix2 (n0 := 32) (n1 := 8192) j]
  obtain ⟨hs, h0, h1⟩ := stepsLR_apply x (j 0) (j 1)
  have hi : indices x (ix2 (n0 := 32) (n1 := 8192) (j 0) (j 1)) = stepsLR x (ix2 (n0 := 32) (n1 := 8192) (j 0) (j 1)) + BitVec.ofNat 32 (j 1).val := rfl
  have hlt : (j 1).val < 8192 := (j 1).isLt
  rw [hi, BitVec.toNat_add, BitVec.toNat_ofNat]
  rcases hs with q | q | q <;> rw [q] at h0 h1 ⊢
  · have : (j 1).val ≠ 0 := fun e => h0 e rfl
    change (4294967295 + _) % _ < _
    omega
  · change (0 + _) % _ < _
    omega
  · have : (j 1).val ≠ 8191 := fun e => h1 e rfl
    change (1 + _) % _ < _
    omega

end Cert.Proof.Range

end
-- ==== Proof.Launch.lean ====
/-
  The launch: what each task is handed and hands back, the main program around it, and what the
  whole run leaves in memory.
-/
module

public import proofs.«01_k».proof.Proof.Tile
public import proofs.«01_k».proof.Proof.Fine
public import proofs.«01_k».proof.Proof.Range

@[expose] public section

noncomputable section

namespace Cert.Proof.SC

open Cert.KernelIdeal Cert.KernelIdeal.Gen Cert.Proof.Spec

open Idealize.ShloMosaic Idealize.ShloMosaic.StableHlo
open Idealize.ShloMosaic.SparseCore (S V T)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig (HIx 1) (Elt F) ℕ UU ℕ

/-! ## A subcore's scratches and semaphores -/

section Scratches
variable (d : Dev nD) (i : grid0.Coords)

/-- The scratches a task uses, and its semaphores. -/
def scratches : Finset (Ref sig .scVector) := {cc0_scratch0, cc0_scratch1, cc0_scratch2, cc0_scratch3, cc0_scratch4}
def sems : Finset (SemLoc sig) :=
  {.dma cc0_scoped0.sem, .dma cc0_scratch5.sem, .dma cc0_scratch6.sem, .dma cc0_scratch7.sem, .dma cc0_scratch8.sem}

/-- They, and the others of the subcore. -/
def myRefs : Finset (DevRef τ sig) := scratches.map ⟨fun r : Ref sig .scVector => (Proc.scVector (cV i) (jV i)).devRef r,
  fun _ _ h => Proc.devRef_injective (Proc.scVector (cV i) (jV i)) h⟩
def myCells : Finset (GSem nD τ sig) := sems.map ⟨fun sm => (thr d i, sm), fun _ _ e => (Prod.mk.inj e).2⟩
def otherBufs : sProp 𝕄 := bigSep (ownRefs (τ := τ) (thr d i).2 \ myRefs i) fun b => iprop(∃ f, ((d, b) : Loc nD τ sig) ↦{fullShare} f)
def otherSems : sProp 𝕄 := bigSep (ownCells (thr d i) \ myCells d i) fun g => semVal g 0

theorem myRefs_sub : myRefs i ⊆ ownRefs (τ := τ) (sig := sig) (thr d i).2 := fun b hb => by
  obtain ⟨r, hr, rfl⟩ := Finset.mem_map.mp hb
  refine SparseCore.Cfg.mem_ownRefs_of_owner ?_
  simp only [scratches, Finset.mem_insert, Finset.mem_singleton] at hr
  rcases hr with rfl | rfl | rfl | rfl | rfl <;> rfl

theorem myCells_sub : myCells d i ⊆ ownCells (thr d i) := fun g hg => by
  obtain ⟨sm, hs, rfl⟩ := Finset.mem_map.mp hg
  have key : ∀ sm ∈ sems, sm.isScoped .scVector = true := by decide
  exact mem_ownCells.mpr ⟨rfl, key sm hs⟩

theorem ownBufs_eq : (ownBufs (thr d i) : sProp 𝕄)
    = iprop(((∃ f, (thr d i).loc cc0_scratch0 ↦{fullShare} f) ∗ (∃ f, (thr d i).loc cc0_scratch1 ↦{fullShare} f)
        ∗ (∃ f, (thr d i).loc cc0_scratch2 ↦{fullShare} f) ∗ (∃ f, (thr d i).loc cc0_scratch3 ↦{fullShare} f)
        ∗ ∃ f, (thr d i).loc cc0_scratch4 ↦{fullShare} f) ∗ otherBufs d i) := by
  unfold SparseCore.Cfg.ownBufs otherBufs
  rw [bigSep_sdiff_split (myRefs_sub d i)]
  unfold myRefs scratches
  rw [bigSep_map, SparseCore.bigSep_insert' (by decide), SparseCore.bigSep_insert' (by decide), SparseCore.bigSep_insert' (by decide),
    SparseCore.bigSep_insert' (by decide), bigSep_singleton]
  rfl

theorem ownSems0_eq : (ownSems0 (thr d i) : sProp 𝕄)
    = iprop((semVal (thr d i, .dma cc0_scoped0.sem) 0 ∗ semVal (thr d i, .dma cc0_scratch5.sem) 0 ∗ semVal (thr d i, .dma cc0_scratch6.sem) 0
        ∗ semVal (thr d i, .dma cc0_scratch7.sem) 0 ∗ semVal (thr d i, .dma cc0_scratch8.sem) 0) ∗ otherSems d i) := by
  unfold SparseCore.Cfg.ownSems0 otherSems
  rw [bigSep_sdiff_split (myCells_sub d i)]
  unfold myCells sems
  rw [bigSep_map, SparseCore.bigSep_insert' (by decide), SparseCore.bigSep_insert' (by decide), SparseCore.bigSep_insert' (by decide),
    SparseCore.bigSep_insert' (by decide), bigSep_singleton]
  rfl

end Scratches

/-! ## What is handed around -/

section Handed
variable (d : Dev nD) (X o : S32x128x8192.Idx → F .f32) (I : S32x8192.Idx → BitVec 32)

/-- Row `b` of the three arrays, the result's at `o`. -/
def part (b : Fin 32) : sProp 𝕄 :=
  iprop((xLoc d ↦[rng b 0 128]{fullShare} X) ∗ (iLoc d ↦[irng b]{fullShare} I) ∗ oLoc d ↦[rng b 0 128]{fullShare} o)

/-- The row of subcore `i` of core `c`. -/
def rowOf (c : Fin 2) (i : Fin 16) : Fin 32 := ⟨2 * i.val + c.val, by omega⟩

/-- An array is its elements, row by row, the rows dealt to the cores and their subcores. -/
theorem dealt {ℓ : Loc nD τ sig} (f : Buf (Elt F) ℓ) (key : Idx ℓ → ℕ) (hk : ∀ j, key j < 32) (R : Fin 32 → Finset (Idx ℓ))
    (hR : ∀ b j, j ∈ R b ↔ key j = b.val) :
    (ℓ ↦{fullShare} f : sProp 𝕄) = bigSep Finset.univ fun c : Fin 2 => bigSep Finset.univ fun i : Fin 16 => ℓ ↦[R (rowOf c i)]{fullShare} f := by
  rw [← bigSep_univ_prod (fun ci : Fin 2 × Fin 16 => (ℓ ↦[R (rowOf ci.1 ci.2)]{fullShare} f : sProp 𝕄)),
    ← pointsTo_biUnion Finset.univ (ℓ := ℓ) (fun ci : Fin 2 × Fin 16 => R (rowOf ci.1 ci.2)) ?_]
  · congr 1
    refine (Finset.eq_univ_iff_forall.mpr fun j => ?_).symm
    have := hk j
    exact Finset.mem_biUnion.mpr ⟨(⟨key j % 2, by omega⟩, ⟨key j / 2, by omega⟩), Finset.mem_univ _, (hR _ _).mpr (by show key j = 2 * (key j / 2) + key j % 2; omega)⟩
  · rintro ⟨c, i⟩ - ⟨c', i'⟩ - hne
    refine Finset.disjoint_left.mpr fun j h h' => hne ?_
    have e := ((hR _ _).mp h).symm.trans ((hR _ _).mp h')
    have e' : 2 * i.val + c.val = 2 * i'.val + c'.val := e
    exact Prod.ext (Fin.ext (by show c.val = c'.val; omega)) (Fin.ext (by show i.val = i'.val; omega))

/-- The three arrays whole are their rows dealt out. -/
theorem whole_eq : (iprop((xLoc d ↦{fullShare} X) ∗ (iLoc d ↦{fullShare} I) ∗ oLoc d ↦{fullShare} o) : sProp 𝕄)
    = bigSep Finset.univ fun c : Fin 2 => bigSep Finset.univ fun i : Fin 16 => part d X o I (rowOf c i) := by
  unfold part
  simp only [bigSep_sep']
  have h0 (j : S32x128x8192.Idx) : (j 0).val < 32 := (j 0).isLt
  have h1 (j : S32x128x8192.Idx) : (j 1).val < 128 := (j 1).isLt
  have h2 (j : S32x8192.Idx) : (j 0).val < 32 := (j 0).isLt
  have hr (b : Fin 32) (j : S32x128x8192.Idx) : j ∈ rng b 0 128 ↔ (j 0).val = b.val :=
    mem_rng.trans ⟨fun h => h.1, fun h => ⟨h, Nat.zero_le _, h1 j⟩⟩
  rw [dealt (ℓ := xLoc d) X (fun j : S32x128x8192.Idx => (j 0).val) h0 (fun b => rng b 0 128) hr,
    dealt (ℓ := iLoc d) I (fun j : S32x8192.Idx => (j 0).val) h2 irng (fun b j => mem_irng),
    dealt (ℓ := oLoc d) o (fun j : S32x128x8192.Idx => (j 0).val) h0 (fun b => rng b 0 128) hr]

end Handed

variable (m : (ℓ : Loc nD τ sig) → Buf (Elt F) ℓ) (ρ : Dev nD → PrngReg)

/-- The host operations before the call, and what they leave. -/
abbrev ops : List (HloOp τ sig (Elt F)) := (HostK.lines (F := F)).1.1 ++ (HostK.lines (F := F)).1.2
abbrev left (d : Dev nD) : Valuation τ sig (Elt F) := after ops (launchContents m d)

/-- The argument, the indices, the result's array as the call finds them, and the result as the call leaves it. -/
abbrev argAt (d : Dev nD) : S32x128x8192.Idx → F .f32 := left m d (Proc.devRef .tc main_arg0)
abbrev idxAt (d : Dev nD) : S32x8192.Idx → BitVec 32 := left m d (Proc.devRef .tc main_v28)
abbrev oldAt (d : Dev nD) : S32x128x8192.Idx → F .f32 := left m d (Proc.devRef .tc main_v29)
abbrev newAt (d : Dev nD) : S32x128x8192.Idx → F .f32 := gathered (argAt m d) (idxAt m d)

theorem idxAt_lt (d : Dev nD) (j : S32x8192.Idx) : (idxAt m d j).toNat < 8192 := by
  unfold idxAt left ops
  rw [after_append, Range.after_indices]
  exact Range.indices_lt _ j

/-- A subcore is handed its row, a core the rows of its subcores. -/
abbrev rowBefore (d : Dev nD) (c : Fin 2) (i : Fin 16) : sProp 𝕄 := part d (argAt m d) (oldAt m d) (idxAt m d) (rowOf c i)
abbrev rowAfter (d : Dev nD) (c : Fin 2) (i : Fin 16) : sProp 𝕄 := part d (argAt m d) (newAt m d) (idxAt m d) (rowOf c i)

def P : (K (F := F)).Pay (nD := nD) (Val := Elt F) (Name := ℕ) (U := UU) where
  st := fun q d c => match q with | 0 => bigSep Finset.univ fun i : Fin 16 => rowBefore m d c i
  dn := fun q d c => match q with | 0 => bigSep Finset.univ fun i : Fin 16 => rowAfter m d c i
  go := fun q d c i => match q with | 0 => rowBefore m d c i
  td := fun q d c i => match q with | 0 => rowAfter m d c i
  x := fun _ _ => iprop(emp)

instance part_storable (d : Dev nD) (X o : S32x128x8192.Idx → F .f32) (I : S32x8192.Idx → BitVec 32) (b : Fin 32) :
    BI.Storable (upEmb : UEmb _ 𝕄) (part d X o I b) := by
  unfold part; infer_instance

instance P_storable : (P (F := F) m).IsStorable where
  st q d c := match q with
    | 0 => (inferInstance : BI.Storable (upEmb : UEmb _ 𝕄) (bigSep Finset.univ fun i : Fin 16 => rowBefore m d c i))
  dn q d c := match q with
    | 0 => (inferInstance : BI.Storable (upEmb : UEmb _ 𝕄) (bigSep Finset.univ fun i : Fin 16 => rowAfter m d c i))
  go q d c i := match q with | 0 => (inferInstance : BI.Storable (upEmb : UEmb _ 𝕄) (rowBefore m d c i))
  td q d c i := match q with | 0 => (inferInstance : BI.Storable (upEmb : UEmb _ 𝕄) (rowAfter m d c i))

theorem vecSplit : (K (F := F)).VecSplit' (P m) 0 := by
  intro d c
  show (bigSep Finset.univ fun i : Fin 16 => rowBefore m d c i) ⊢ |={Set.univ}=> iprop(
      (bigSep Finset.univ fun i : Fin 16 => rowBefore m d c i)
      ∗ ((bigSep Finset.univ fun i : Fin 16 => rowAfter m d c i) -∗ bigSep Finset.univ fun i : Fin 16 => rowAfter m d c i))
  iintro H; imodintro
  isplitl [H]; · iexact H
  iintro H; iexact H

/-! ## A task's obligation -/

/-- The place of subcore `s` of core `c`. -/
def place (c : Fin (grid0.bound 0)) (s : Fin (grid0.bound 1)) : grid0.Coords := fun a => match a with | 0 => c | 1 => s

/-- The task as the launch runs it: its scratches and semaphores are the subcore's, given back at the end. -/
theorem tile_body (d : Dev nD) (c : Fin 2) (s : Fin 16) (O : CellTallies nD τ sig (HIx 1)) (W : Waits sig (HIx 1)) (hO : ∀ g, O g none = 0) :
    iprop(levAts (K (F := F)).L (K (F := F)).lev ∗ emp ∗ rowBefore m d c s
        ∗ scopedBufs (thr d (place c s)) ∗ scopedSems0 (thr d (place c s)) ∗ owes (thr d (place c s)) O W)
      ⊢ wp frame (wpE (defs₀ (F := F)) 𝒱₀ (thr d (place c s)) none) Set.univ
          (cc0__jitter_sc (F := F) (place c s) xV (Memref.isWhole_whole _) iV (Memref.isWhole_whole _) oV (Memref.isWhole_whole _) sI (Memref.isWhole_whole _)
            sA (Memref.isWhole_whole _) sB (Memref.isWhole_whole _) sC (Memref.isWhole_whole _) sD (Memref.isWhole_whole _)
            cc0_scratch5 cc0_scratch6 cc0_scratch7 cc0_scratch8 cc0_scoped0)
          fun _ => iprop(rowAfter m d c s ∗ scopedBufs (thr d (place c s)) ∗ scopedSems0 (thr d (place c s))
            ∗ ∃ W', ⌜∀ p ∈ W', p ∈ W ∨ p.2 = none⌝ ∗ owes (thr d (place c s)) O W') := by
  rw [(K (F := F)).scopedBufs_V facts, SparseCore.Cfg.scopedSems0_V, ownBufs_eq, ownSems0_eq]
  have hrow : row (place c s) = rowOf c s := rfl
  have hopen : iprop(owes (thr d (place c s)) O W ∗ rowBefore m d c s
      ∗ ((∃ f, (thr d (place c s)).loc cc0_scratch0 ↦{fullShare} f) ∗ (∃ f, (thr d (place c s)).loc cc0_scratch1 ↦{fullShare} f)
        ∗ (∃ f, (thr d (place c s)).loc cc0_scratch2 ↦{fullShare} f) ∗ (∃ f, (thr d (place c s)).loc cc0_scratch3 ↦{fullShare} f)
        ∗ ∃ f, (thr d (place c s)).loc cc0_scratch4 ↦{fullShare} f)
      ∗ (semVal (thr d (place c s), .dma cc0_scoped0.sem) 0 ∗ semVal (thr d (place c s), .dma cc0_scratch5.sem) 0 ∗ semVal (thr d (place c s), .dma cc0_scratch6.sem) 0
        ∗ semVal (thr d (place c s), .dma cc0_scratch7.sem) 0 ∗ semVal (thr d (place c s), .dma cc0_scratch8.sem) 0))
      ⊢ holds d (place c s) (argAt m d) (idxAt m d) (O := O) (W := W) (oldAt m d) := by
    unfold holds owing xPts iPts oPts free rowBefore part
    simp only [owns_whole]
    rw [hrow]
    iintro ⟨HO, ⟨Hx, Hi, Ho⟩, ⟨H0, H1, H2, H3, H4⟩, V0, V1, V2, V3, V4⟩
    isplitl [HO]
    · iexists W
      isplitr
      · ipureintro; exact fun p hp => Or.inl hp
      · iexact HO
    isplitl [Hx]; · iexact Hx
    isplitl [Hi]; · iexact Hi
    isplitl [Ho]; · iexact Ho
    isplitl [H0 V0]
    · isplitl [H0] <;> iassumption
    isplitl [H1 V1]
    · isplitl [H1] <;> iassumption
    isplitl [H2 V2]
    · isplitl [H2] <;> iassumption
    isplitl [H3 V3]
    · isplitl [H3] <;> iassumption
    isplitl [H4] <;> iassumption
  have hclose : holds d (place c s) (argAt m d) (idxAt m d) (O := O) (W := W) (newAt m d)
      ⊢ iprop((∃ W', ⌜∀ p ∈ W', p ∈ W ∨ p.2 = none⌝ ∗ owes (thr d (place c s)) O W') ∗ rowAfter m d c s
      ∗ ((∃ f, (thr d (place c s)).loc cc0_scratch0 ↦{fullShare} f) ∗ (∃ f, (thr d (place c s)).loc cc0_scratch1 ↦{fullShare} f)
        ∗ (∃ f, (thr d (place c s)).loc cc0_scratch2 ↦{fullShare} f) ∗ (∃ f, (thr d (place c s)).loc cc0_scratch3 ↦{fullShare} f)
        ∗ ∃ f, (thr d (place c s)).loc cc0_scratch4 ↦{fullShare} f)
      ∗ (semVal (thr d (place c s), .dma cc0_scoped0.sem) 0 ∗ semVal (thr d (place c s), .dma cc0_scratch5.sem) 0 ∗ semVal (thr d (place c s), .dma cc0_scratch6.sem) 0
        ∗ semVal (thr d (place c s), .dma cc0_scratch7.sem) 0 ∗ semVal (thr d (place c s), .dma cc0_scratch8.sem) 0)) := by
    unfold holds owing xPts iPts oPts free rowAfter part
    simp only [owns_whole]
    rw [hrow]
    iintro ⟨HO, Hx, Hi, Ho, ⟨H0, V0⟩, ⟨H1, V1⟩, ⟨H2, V2⟩, ⟨H3, V3⟩, H4, V4⟩
    isplitl [HO]; · iexact HO
    isplitl [Hx Hi Ho]
    · isplitl [Hx]; · iexact Hx
      isplitl [Hi]; · iexact Hi
      iexact Ho
    isplitl [H0 H1 H2 H3 H4]
    · isplitl [H0]; · iexact H0
      isplitl [H1]; · iexact H1
      isplitl [H2]; · iexact H2
      isplitl [H3]; · iexact H3
      iexact H4
    isplitl [V0]; · iexact V0
    isplitl [V1]; · iexact V1
    isplitl [V2]; · iexact V2
    isplitl [V3]; · iexact V3
    iexact V4
  have hrun := task_ok d (place c s) (argAt m d) (oldAt m d) (idxAt m d) (W := W) hO (idxAt_lt m d)
  iintro ⟨#Hlev, -, Hrow, ⟨Hsc, Hob⟩, ⟨Hsem, Hos⟩, HO⟩
  ihave Hall := hopen $$ [HO Hrow Hsc Hsem]
  · isplitl [HO]; · iexact HO
    isplitl [Hrow]; · iexact Hrow
    isplitl [Hsc]; · iexact Hsc
    iexact Hsem
  ihave Hwp := hrun $$ [Hall]
  · isplitr
    · iexact Hlev
    · iexact Hall
  iapply (wp_wand frame _ Set.univ) $$ [Hwp]
  · iexact Hwp
  iintro %_ Hall
  ihave Hall := hclose $$ Hall
  icases Hall with ⟨HO, Hrow, Hsc, Hsem⟩
  isplitl [Hrow]; · iexact Hrow
  isplitl [Hsc Hob]
  · isplitl [Hsc]; · iexact Hsc
    iexact Hob
  isplitl [Hsem Hos]
  · isplitl [Hsem]; · iexact Hsem
    iexact Hos
  iexact HO

end Cert.Proof.SC

end
-- ==== Proof.Whole.lean ====
/-
  The whole program's run: the tasks' obligations, the launch's ghost state, the main program, and
  what the run leaves in memory.
-/
module

public import proofs.«01_k».proof.Proof.Launch
public import Idealize.ShloMosaic.Lib.Pipeline.Frame

@[expose] public section

noncomputable section

namespace Cert.Proof.SC

open Cert.KernelIdeal Cert.KernelIdeal.Gen Cert.Proof.Spec

open Idealize.ShloMosaic Idealize.ShloMosaic.StableHlo
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig (HIx 1) (Elt F) ℕ UU ℕ

variable (m : (ℓ : Loc nD τ sig) → Buf (Elt F) ℓ) (ρ : Dev nD → PrngReg)

/-! ## The tasks -/

theorem vector_body (c : Fin τ.nSC) (s : Fin τ.nSub) :
    defs₀ (F := F) (.scVector c s) 0 ()
      = SparseCore.onTile hcore0 hsub0 (fun c s => cc0__jitter_sc (F := F) (place c s)
          xV (Memref.isWhole_whole _) iV (Memref.isWhole_whole _) oV (Memref.isWhole_whole _) sI (Memref.isWhole_whole _)
          sA (Memref.isWhole_whole _) sB (Memref.isWhole_whole _) sC (Memref.isWhole_whole _) sD (Memref.isWhole_whole _)
          cc0_scratch5 cc0_scratch6 cc0_scratch7 cc0_scratch8 cc0_scoped0) ⟨⟩ c s := rfl

/-- The launch lets a task also wait at its call's own index. -/
theorem more_waits {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [vector_body]; simp only [SparseCore.onTile, hc, and_self, ↓reduceDIte]
  exact (tile_body m d c i O W hO).trans (wp_mono frame _ _ fun _ => more_waits)

/-! ## The launch's ghost state -/

def u₀ : UU := (initOf (K (F := F)).hsCells (K (F := F)).hsToks, 1)

theorem ownU_fst (a : UH) (b : Counters) : (ownU (a, b) : sProp 𝕄) ⊢ BI.own (EH a) := by
  have h : (ownU (a, b) : sProp 𝕄)
      ⊢ iprop(BI.own (EH a) ∗ BI.own ((uEmb (nD := nD) (sig := sig) (Ix := HIx 1) (Val := Elt F) (Name := ℕ) (U := UU) (Lvl := ℕ)).toEmb (1, b))) :=
    BI.own_op_elim ((uEmb (nD := nD) (sig := sig) (Ix := HIx 1) (Val := Elt F) (Name := ℕ) (U := UU) (Lvl := ℕ)).toEmb.op_of_mem
      (Prod.mk_mem_op (URA.mem_op_one a) (URA.mem_one_op b)))
  iintro H
  ihave H := h $$ H
  icases H with ⟨H, -⟩
  iexact H

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have hx : (bigSep Finset.univ fun thr : Thread nD τ => bigSep Finset.univ fun q : Fin 1 => (P (F := F) m).x q thr) = (iprop(emp) : sProp 𝕄) := by
    simp only [show (P (F := F) m).x = fun _ _ => iprop(emp) from rfl, bigSep_emp']
  rw [hx]
  unfold u₀
  iintro Hu
  ihave HH := (ownU_fst _ _) $$ Hu
  imodintro
  isplitl [HH]; · iexact HH
  rw [bigSep_emp']
  isplitr <;> iempintro

/-! ## The main program -/

/-- The three arrays of the call, among the main program's buffers. -/
def three : Finset (Ref sig .tc) := {main_arg0, main_v28, main_v29}
def threeRefs : Finset (DevRef τ sig) := three.map ⟨Proc.devRef .tc, Proc.devRef_injective _⟩

theorem three_sub : threeRefs ⊆ Pipeline.ucRefs τ sig := fun b hb => by
  obtain ⟨r, hr, rfl⟩ := Finset.mem_map.mp hb
  have key : ∀ r ∈ three, (Proc.devRef (τ := τ) .tc r).isScoped = false := by decide
  exact Finset.mem_filter.mpr ⟨Finset.mem_map.mpr ⟨r, Finset.mem_univ _, rfl⟩, fun h => Bool.false_ne_true ((key r hr).symm.trans h)⟩

theorem held_three (d : Dev nD) (W : Valuation τ sig (Elt F)) : (held (d.tc : Thread nD τ) threeRefs W : sProp 𝕄)
    = iprop((xLoc d ↦{fullShare} W (Proc.devRef .tc main_arg0)) ∗ (iLoc d ↦{fullShare} W (Proc.devRef .tc main_v28))
        ∗ oLoc d ↦{fullShare} W (Proc.devRef .tc main_v29)) := by
  unfold held threeRefs three
  rw [bigSep_map, SparseCore.bigSep_insert' (by decide), SparseCore.bigSep_insert' (by decide), bigSep_singleton]
  rfl

/-- What the call is handed is the three arrays, and so is what it hands back. -/
theorem handed (d : Dev nD) : (bigSep Finset.univ fun c : Fin ((K (F := F)).nCore 0) => (P m).st 0 d c)
    = iprop((xLoc d ↦{fullShare} argAt m d) ∗ (iLoc d ↦{fullShare} idxAt m d) ∗ oLoc d ↦{fullShare} oldAt m d) :=
  (whole_eq d (argAt m d) (oldAt m d) (idxAt m d)).symm
theorem handed_back (d : Dev nD) : (bigSep Finset.univ fun c : Fin ((K (F := F)).nCore 0) => (P m).dn 0 d c)
    = iprop((xLoc d ↦{fullShare} argAt m d) ∗ (iLoc d ↦{fullShare} idxAt m d) ∗ oLoc d ↦{fullShare} newAt m d) :=
  (whole_eq d (argAt m d) (newAt m d) (idxAt m d)).symm

theorem main_eq (d : Dev nD) : main (F := F) d = seq ops >>= fun _ => (sc.run d 0 >>= fun _ => pure ⟨⟩) :=
  ((HostK.lines (F := F)).2 d).trans (seq_bind_seqK _ _).symm

/-- What the main program ends with: the argument, and the gathered result. -/
abbrev FIN (d : Dev nD) : sProp 𝕄 := iprop((xLoc d ↦{fullShare} argAt m d) ∗ oLoc d ↦{fullShare} newAt m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d (fun b => m ((SparseCore.T d).loc b)) : sProp 𝕄) = held (d.tc : Thread nD τ) (Pipeline.ucRefs τ sig) (launchContents m d)
    from Pipeline.unscopedBufs_held d (launchContents m d)]
  have hf := List.forall_iff_forall_mem.mp (Fine.fineK (F := F))
  iintro ⟨#Hctx, Hst, ⟨Hb, Hbufs, Hts, -⟩, -⟩
  iapply (wp_seq 𝒱 none Set.univ d (Pipeline.ucRefs τ sig) _ ops (fun op h => Pipeline.sub_ucRefs op (hf op h).bufs) (fun op h => (hf op h).fresh)
    (launchContents m d)) $$ [Hb Hbufs]
  · isplitl [Hb] <;> iassumption
  rw [held_sub_split (d.tc : Thread nD τ) three_sub, held_three]
  iintro ⟨Hb, Harr, -⟩
  simp only [wp_bind, wp_pure]
  iapply ((K (F := F)).wp_run (D (F := F)) 𝒱 (EH := EH) (P := P m) κ d 0) $$ [Hst Harr Hb Hts]
  isplitr; · iexact Hctx
  isplitl [Hst]; · iexact Hst
  isplitl [Harr]
  · rw [handed]; iexact Harr
  iintro ⟨Hst, Hdn⟩
  ihave Hdn := (Entails.of_eq (handed_back m d)) $$ Hdn
  icases Hdn with ⟨Hx, -, Ho⟩
  imodintro
  isplitl [Hst]; · iexact Hst
  isplitl [Hx Ho]
  · isplitl [Hx]; · iexact Hx
    iexact Ho
  isplitl [Hb] <;> iassumption

/-! ## What the run leaves -/

def fq (d : Dev nD) (s' : Phys nD τ sig (Elt F)) : Prop := s'.mem.mem (xLoc d) = argAt m d ∧ s'.mem.mem (oLoc d) = newAt m d

theorem hfin (d : Dev nD) (s' : Phys nD τ sig (Elt F)) : iprop(FIN m d ∗ SI s') ⊢ (⌜fq m d s'⌝ : sProp 𝕄) := by
  iintro ⟨⟨Hx, Ho⟩, HSI⟩
  ihave H := (persistent_entails_right (SI_pointsTo_agree (st := s') (ℓ := xLoc d) (I := Finset.univ) (q := fullShare) (f := argAt m d))) $$ [HSI Hx]
  · isplitl [HSI] <;> iassumption
  icases H with ⟨%h1, HSI, -⟩
  ihave H := (SI_pointsTo_agree (st := s') (ℓ := oLoc d) (I := Finset.univ) (q := fullShare) (f := newAt m d)) $$ [HSI Ho]
  · isplitl [HSI] <;> iassumption
  icases H with %h2
  ipureintro; exact ⟨funext fun i => h1 i (Finset.mem_univ i), funext fun i => h2 i (Finset.mem_univ i)⟩

/-- The argument is as it was, the result is the gathered array, the counters are at zero. -/
def QC : PUnit × MemSt nD τ sig (Elt F) → Prop := fun r =>
  (∀ d : Dev nD, r.2.mem (xLoc d) = argAt m d ∧ r.2.mem (oLoc d) = newAt m d) ∧ r.2.sem = fun _ => 0

theorem argAt_eq (d : Dev nD) : argAt m d = m (xLoc d) := Fine.after_eq Fine.fineK _

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.SC

end
-- ==== Proof.Agree.lean ====
/-
  The reference computes the same indices as the kernel program's host text.
-/
module

public import proofs.«01_k».proof.Proof.HostK
public import proofs.«01_k».proof.Proof.HostR

@[expose] public section

noncomputable section

namespace Cert.Proof.Agree

open Idealize.ShloMosaic Idealize.ShloMosaic.StableHlo Idealize.SL.Sem Cert.Proof.Line

variable {F : FTy → Type} [FloatOps F] [Cert.KernelIdeal.Facts] [Cert.ReferenceIdeal.Facts]

set_option maxRecDepth 100000 in
set_option maxHeartbeats 40000000 in
theorem follow : Follow 1 ((HostK.lines (F := F)).1.1 ++ (HostK.lines (F := F)).1.2) (HostR.lines (F := F)).1.1 [] := by
  unfold HostK.lines HostR.lines Line.cut
  dsimp only [List.cons_append, List.nil_append]
  repeat
    refine Follow.cons ?_ ?_
    · first
        | with_reducible refine Step.nullary ?_ ?_
        | with_reducible refine Step.unary ?_ ?_ ?_
        | with_reducible refine Step.binary ?_ ?_ ?_ ?_
        | with_reducible refine Step.reshape ?_ ?_
        | with_reducible refine Step.ternary ?_ ?_ ?_ ?_ ?_
        | with_reducible refine Step.quaternary ?_ ?_ ?_ ?_ ?_ ?_
      all_goals first
        | exact ⟨rfl, rfl, rfl, rfl, rfl⟩
        | exact ⟨rfl, rfl, rfl, by decide, rfl⟩
        | exact HEq.rfl
  exact Follow.nil

end Cert.Proof.Agree

end
-- ==== Proof.Gather.lean ====
/-
  The reference's gather along the indices, read at an entry: an index that is a column number is neither moved nor
  masked.
-/
module

public import proofs.«01_k».proof.Proof.HostR
public import proofs.«01_k».proof.Proof.Spec
public import Idealize.ShloMosaic.Lib.StableHlo.RunRead
public import Idealize.ShloMosaic.Lib.ReduceAll

@[expose] public section

noncomputable section

namespace Cert.Proof.Gather

open Idealize.ShloMosaic Idealize.ShloMosaic.StableHlo Idealize.ShloMosaic.ValueIdx
open Cert.ReferenceIdeal Cert.ReferenceIdeal.Facts₀ Cert.Proof.Spec

variable {F : FTy → Type} [FloatOps F] [Cert.ReferenceIdeal.Facts]

/-- The indices, one copy for each channel. -/
def spread (idx : IVec S32x8192 32) : IVec S32x128x8192 32 :=
  broadcastInDim S32x128x8192 ![0, 1, 2] bcast_S32x1x8192_S32x128x8192_0_1_2
    (broadcastInDim S32x1x8192 ![0, 2] bcast_S32x8192_S32x1x8192_0_2 idx)

/-- The start indices of the gather: a negative index counts from the row's end. -/
def starts (v : IVec S32x128x8192 32) : IVec S32x128x8192x1 32 :=
  shapeCast S32x128x8192x1 (select (cmpi .slt v (broadcastInDim S32x128x8192 ![] bcast_S_S32x128x8192 (constantI S_ 32 0#32)))
    (addi v (broadcastInDim S32x128x8192 ![] bcast_S_S32x128x8192 (constantI S_ 32 8192#32))) v)
    shapeCasts_S32x128x8192_S32x128x8192x1

/-- Where the start indices lie in the row. -/
def mask (i : IVec S32x128x8192x1 32) : IVec S32x128x8192 1 :=
  Host.reduce IntOp.andi (andi
    (cmpi .sge i (broadcastInDim S32x128x8192x1 ![] bcast_S_S32x128x8192x1 (constantI S_ 32 0#32)))
    (cmpi .sle i (broadcastInDim S32x128x8192x1 ![0, 1, 2, 3] bcast_S1x1x1x1_S32x128x8192x1_0_1_2_3
      (broadcastInDim S1x1x1x1 ![3] bcast_S1_S1x1x1x1_3 (constantI S1 32 8191#32)))))
    (constantI S_ 1 1#1) reducesTo_S32x128x8192x1_S32x128x8192_d3 h_S_

/-- The reference's gather. -/
def taken (x : FVec F S32x128x8192 .f32) (v : IVec S32x128x8192 32) : FVec F S32x128x8192 .f32 :=
  select (mask (starts v))
    (Host.gather gather_S32x128x8192_S32x128x8192x1_S32x128x8192_n_2_01_01_2_3_111 x (starts v))
    (broadcastInDim S32x128x8192 ![] bcast_S_S32x128x8192 (constant S_ .f32 0x7FC00000#32))

set_option maxHeartbeats 4000000 in
set_option maxRecDepth 100000 in
/-- What the second part of the reference leaves in its result. -/
theorem after_taken (V : Valuation τ sig (Elt F)) :
    after (HostR.lines (F := F)).1.2 V (Proc.devRef .tc main_v31)
      = taken (F := F) (V (Proc.devRef .tc main_arg0)) (spread (V (Proc.devRef .tc main_v28))) := by
  unfold HostR.lines Line.cut
  dsimp only
  after_reads_simp
  simp only [TRef.ofBuf_toBuf]
  unfold taken mask starts spread
  simp only [cast_eq, id_eq]
  rfl

theorem spread_apply (idx : IVec S32x8192 32) (j : S32x128x8192.Idx) :
    spread idx j = idx (ix2 (n0 := 32) (n1 := 8192) (j 0) (j 2)) := by
  unfold spread broadcastInDim
  congr 1
  funext a
  match a with
  | ⟨0, _⟩ => rfl
  | ⟨1, _⟩ => rfl

/-- A column number is not negative and not beyond the row. -/
theorem word_in {w : BitVec 32} (h : w.toNat < 8192) :
    IntOp.cmpi .slt w 0#32 = 0#1 ∧ IntOp.cmpi .sge w 0#32 = 1#1 ∧ IntOp.cmpi .sle w 8191#32 = 1#1 := by
  have hi : w.toInt = (w.toNat : Int) := by rw [BitVec.toInt_eq_toNat_of_lt (by omega)]
  have h0 : (0#32).toInt = 0 := by decide
  have h1 : (8191#32).toInt = 8191 := by decide
  unfold IntOp.cmpi
  simp only [BitVec.slt, BitVec.sle, hi, h0, h1]
  refine ⟨?_, ?_, ?_⟩
  · rw [decide_eq_false (by omega)]; rfl
  · first | rw [decide_eq_true (by omega)] | rw [decide_eq_false (by omega)]
    rfl
  · rw [decide_eq_true (by omega)]; rfl

theorem starts_apply (v : IVec S32x128x8192 32) (hv : ∀ j, (v j).toNat < 8192) (i : S32x128x8192x1.Idx) :
    starts v i = v (ix3 (n0 := 32) (n1 := 128) (n2 := 8192) (i 0) (i 1) (i 2)) := by
  have hsel : (select (cmpi .slt v (broadcastInDim S32x128x8192 ![] bcast_S_S32x128x8192 (constantI S_ 32 0#32)))
    (addi v (broadcastInDim S32x128x8192 ![] bcast_S_S32x128x8192 (constantI S_ 32 8192#32))) v) = v := by
    funext j
    change Scalar.select (IntOp.cmpi .slt (v j) 0#32) _ (v j) = v j
    rw [(word_in (hv j)).1]
    rfl
  unfold starts
  rw [hsel]
  unfold shapeCast
  congr 1
  refine S32x128x8192.rowMajor.injective (Fin.ext ((Shape.rowMajor_reshapeEquiv _ _).trans ?_))
  have h3 : (i 3).val = 0 := by have := (i 3).isLt; change (i 3).val < 1 at this; omega
  rw [Shape.rowMajor_val_four, Shape.rowMajor_val_three, h3]
  show (((i 0).val * 128 + (i 1).val) * 8192 + (i 2).val) * 1 + 0 = ((i 0).val * 128 + (i 1).val) * 8192 + (i 2).val
  omega

theorem taken_eq (x : FVec F S32x128x8192 .f32) (v : IVec S32x128x8192 32) (hv : ∀ j, (v j).toNat < 8192) (j : S32x128x8192.Idx) :
    taken x v j = x (ix3 (n0 := 32) (n1 := 128) (n2 := 8192) (j 0) (j 1) (col (v j))) := by
  have hm : mask (starts v) j = 1#1 := by
    unfold mask
    refine Host.reduce_andi_one _ _ _ _ _ rfl fun i => ?_
    change IntOp.andi (IntOp.cmpi .sge (starts v i) 0#32) (IntOp.cmpi .sle (starts v i) 8191#32) = 1#1
    rw [starts_apply v hv, (word_in (hv _)).2.1, (word_in (hv _)).2.2]
    rfl
  unfold taken
  change Scalar.select (mask (starts v) j) _ _ = _
  rw [hm]
  change Host.gather _ x (starts v) j = _
  unfold Host.gather
  refine congrArg x (funext fun a => ?_)
  refine Fin.ext ?_
  set d := gather_S32x128x8192_S32x128x8192x1_S32x128x8192_n_2_01_01_2_3_111 with hd
  change d.start j (starts v) a + d.batchCoord j a + d.offCoord j a = _
  match a with
  | ⟨0, _⟩ =>
    rw [GatherDims.start_batching _ _ _ _ (show (0 : Fin 3) ∈ ([0, 1] : List (Fin 3)) by decide),
      GatherDims.offCoord_eq_zero _ _ _ (fun h => ((GatherDims.mem_sKept _ _).mp h).2 (show (0 : Fin 3) ∈ ([0, 1] : List (Fin 3)) by decide))]
    unfold GatherDims.batchCoord
    rw [dif_pos (show (⟨0, by decide⟩ : Fin S32x128x8192.rank) ∈ d.operandBatchingDims from show (0 : Fin 3) ∈ ([0, 1] : List (Fin 3)) by decide)]
    simp only [Nat.zero_add, Nat.add_zero]
    rfl
  | ⟨1, _⟩ =>
    rw [GatherDims.start_batching _ _ _ _ (show (1 : Fin 3) ∈ ([0, 1] : List (Fin 3)) by decide),
      GatherDims.offCoord_eq_zero _ _ _ (fun h => ((GatherDims.mem_sKept _ _).mp h).2 (show (1 : Fin 3) ∈ ([0, 1] : List (Fin 3)) by decide))]
    unfold GatherDims.batchCoord
    rw [dif_pos (show (⟨1, by decide⟩ : Fin S32x128x8192.rank) ∈ d.operandBatchingDims from show (1 : Fin 3) ∈ ([0, 1] : List (Fin 3)) by decide)]
    simp only [Nat.zero_add, Nat.add_zero]
    rfl
  | ⟨2, _⟩ =>
    rw [GatherDims.batchCoord_eq_zero _ _ _ (show (2 : Fin 3) ∉ ([0, 1] : List (Fin 3)) by decide),
      GatherDims.offCoord_eq_zero _ _ _ (fun h => ((GatherDims.mem_sKept _ _).mp h).1 (show (2 : Fin 3) ∈ ([2] : List (Fin 3)) by decide))]
    unfold GatherDims.start
    rw [dif_pos (show (⟨2, by decide⟩ : Fin S32x128x8192.rank) ∈ d.startIndexMap from show (2 : Fin 3) ∈ ([2] : List (Fin 3)) by decide), starts_apply v hv]
    have hj : ∀ q, (ix3 (n0 := 32) (n1 := 128) (n2 := 8192) (d.siIdx j q 0) (d.siIdx j q 1) (d.siIdx j q 2)) = j := by
      intro q
      funext b
      match b with
      | ⟨0, _⟩ => rfl
      | ⟨1, _⟩ => rfl
      | ⟨2, _⟩ => rfl
    rw [hj]
    have hlt := hv j
    rw [BitVec.toInt_eq_toNat_of_lt (by omega), Int.toNat_natCast]
    show min (v j).toNat (8192 - 1) + 0 + 0 = (col (v j)).val
    rw [col_val hlt]
    omega

/-- **The reference's result**, where the indices are column numbers. -/
theorem after_gathered (V : Valuation τ sig (Elt F)) (hV : ∀ j : S32x8192.Idx, ((V (Proc.devRef .tc main_v28) : IVec S32x8192 32) j).toNat < 8192) :
    after (HostR.lines (F := F)).1.2 V (Proc.devRef .tc main_v31)
      = gathered (α := F .f32) (V (Proc.devRef .tc main_arg0)) (V (Proc.devRef .tc main_v28)) := by
  rw [after_taken]
  funext j
  refine (taken_eq _ _ (fun i => ?_) j).trans ?_
  · rw [spread_apply]; exact hV _
  · rw [spread_apply]; rfl

end Cert.Proof.Gather

end
-- ==== Proof.Ref.lean ====
/-
  The reference's run: what its result holds, and that its argument stays.
-/
module

public import proofs.«01_k».proof.Proof.Fine
public import proofs.«01_k».proof.Proof.Gather
public import Idealize.ShloMosaic.Lib.StableHlo.RunHlo
public import Idealize.ShloMosaic.Lib.Quiescent

@[expose] public section

noncomputable section

namespace Cert.Proof.Ref

open Idealize.ShloMosaic Idealize.ShloMosaic.StableHlo Idealize.SL.Sem Cert.ReferenceIdeal

variable {F : FTy → Type} [FloatOps F] [Cert.ReferenceIdeal.Facts]

/-- The reference's operations. -/
abbrev ops : List (HloOp τ sig (Elt F)) := (HostR.lines (F := F)).1.1 ++ (HostR.lines (F := F)).1.2

theorem scoped_none : (Finset.univ.filter fun b : Ref sig .tc => b.isScoped) = ∅ := by decide
theorem scoped_sem_none : (Finset.univ.filter fun sm : SemLoc sig => sm.isScoped .tc) = ∅ := by decide

/-- The reference runs: every buffer ends with what the operations leave, and the counters are at zero. -/
theorem run (m : (ℓ : Loc nD τ sig) → Buf (Elt F) ℓ) (ρ : Dev nD → PrngReg) :
    θ_run (defs (F := F)) (onTc (τ := τ) (main (F := F))) ⟨m, fun _ => 0, ρ⟩ fun r =>
      (∀ d : Dev nD, r.2.mem ((d.tc : Thread nD τ).loc main_v31) = after ops (launchContents m d) (Proc.devRef .tc main_v31)
        ∧ r.2.mem ((d.tc : Thread nD τ).loc main_arg0) = m ((d.tc : Thread nD τ).loc main_arg0))
      ∧ r.2.sem = fun _ => 0 := by
  have hf := List.forall_iff_forall_mem.mp (Fine.fineR (F := F))
  refine (θ_run (defs (F := F)) _ _).mono (fun r h => ?_)
    (run_hlo (defs (F := F)) (main (F := F)) (ops := ops) (fun d => ((HostR.lines (F := F)).2 d).seq) scoped_none scoped_sem_none
      (List.forall_iff_forall_mem.mpr fun op h => (hf op h).bufs) (fun op h => (hf op h).fresh) m ρ)
  refine ⟨fun d => ⟨h d _, (h d _).trans ?_⟩, sem_eq_zero_of_no_sems rfl _⟩
  exact Fine.after_eq Fine.fineR _

end Cert.Proof.Ref

end
-- ==== Proof.Equal.lean ====
/-
  The kernel's result is the reference's: both gather the argument at the indices their host
  operations compute, and those operations agree.
-/
module

public import proofs.«01_k».proof.Proof.Whole
public import proofs.«01_k».proof.Proof.Agree
public import proofs.«01_k».proof.Proof.Ref
public import proofs.«01_k».proof.Proof.Gen.ReferenceIdeal

@[expose] public section

noncomputable section

namespace Cert.Proof.Equal

open Idealize.ShloMosaic Idealize.ShloMosaic.StableHlo Cert.Proof.Spec Cert.Proof.Line

variable {F : FTy → Type} [FloatOps F] [Cert.KernelIdeal.Facts] [Cert.ReferenceIdeal.Facts]

set_option maxRecDepth 100000 in
theorem length_ops : (SC.ops (F := F)).length = 325 := by
  unfold SC.ops HostK.lines Line.cut
  rfl

variable (V : Valuation Cert.KernelIdeal.τ Cert.KernelIdeal.sig (Elt F)) (V' : Valuation Cert.ReferenceIdeal.τ Cert.ReferenceIdeal.sig (Elt F))

/-- Contents with the same argument agree at the first place. -/
theorem agree_start (h : (V (Proc.devRef .tc Cert.KernelIdeal.main_arg0) : Cert.KernelIdeal.S32x128x8192.Idx → F .f32)
    = V' (Proc.devRef .tc Cert.ReferenceIdeal.main_arg0)) : Agree 1 V V' := by
  rintro r r' ⟨hs, hs', hi, hn, -⟩
  obtain rfl : r = Cert.KernelIdeal.main_arg0 := ref_ext hs (Nat.lt_one_iff.mp hn)
  obtain rfl : r' = Cert.ReferenceIdeal.main_arg0 := ref_ext hs' hi.symm
  exact heq_of_eq h

/-- The reference's result, from the kernel's argument and indices. -/
theorem gathered_eq (h : (V (Proc.devRef .tc Cert.KernelIdeal.main_arg0) : Cert.KernelIdeal.S32x128x8192.Idx → F .f32)
    = V' (Proc.devRef .tc Cert.ReferenceIdeal.main_arg0)) :
    (after Ref.ops V' (Proc.devRef .tc Cert.ReferenceIdeal.main_v31) : Cert.KernelIdeal.S32x128x8192.Idx → F .f32)
      = gathered (α := F .f32) (after SC.ops V (Proc.devRef .tc Cert.KernelIdeal.main_arg0)) (after SC.ops V (Proc.devRef .tc Cert.KernelIdeal.main_v28)) := by
  obtain ⟨V₁, hA, hV₁⟩ := (Agree.follow (F := F)).after (agree_start V V' h)
  have hx := eq_of_heq (hA Cert.KernelIdeal.main_arg0 Cert.ReferenceIdeal.main_arg0 ⟨rfl, rfl, rfl, by rw [length_ops]; decide, rfl⟩)
  have hi := eq_of_heq (hA Cert.KernelIdeal.main_v28 Cert.ReferenceIdeal.main_v28 ⟨rfl, rfl, rfl, by rw [length_ops]; decide, rfl⟩)
  have hlt : ∀ j : Cert.KernelIdeal.S32x8192.Idx, ((after SC.ops V (Proc.devRef .tc Cert.KernelIdeal.main_v28) : Cert.KernelIdeal.S32x8192.Idx → BitVec 32) j).toNat < 8192 := fun j => by
    rw [after_append, Range.after_indices]
    exact Range.indices_lt _ j
  have hr : after (HostR.lines (F := F)).1.1 V' = V₁ := hV₁
  have key := Gather.after_gathered (F := F) V₁ (fun j => (congrArg (fun I : Cert.KernelIdeal.S32x8192.Idx → BitVec 32 => (I j).toNat) hi).symm.trans_lt (hlt j))
  rw [after_append, hr]
  refine key.trans ?_
  exact (congrArg₂ (fun (X : Cert.KernelIdeal.S32x128x8192.Idx → F .f32) (I : Cert.KernelIdeal.S32x8192.Idx → BitVec 32) => gathered X I) hx hi).symm

end Cert.Proof.Equal

end
-- ==== Proof.lean ====
/-
  The certificate: the kernel's two programs and the reference run and keep their argument, and the
  kernel's result is the reference's.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Equal
public import Idealize.ShloMosaic.Adequacy
public import Idealize.ShloMosaic.Init

@[expose] public section

noncomputable section

namespace Cert.Proof

open Idealize.ShloMosaic Idealize.SL.Sem

set_option maxHeartbeats 20000000 in
set_option maxRecDepth 100000 in
/-- The kernel's programs run, the argument kept and the counters back at zero: the two texts are one. -/
theorem kernel_frame : Cert.quiescent_Kernel (hKernel := Cert.Kernel.Gen.facts) := fun m ρ _ =>
  (θ_run (Cert.KernelIdeal.defs (F := Bits)) _ _).mono (fun _ h => ⟨fun d => (h.1 d).1.trans (SC.argAt_eq m d), h.2⟩) (SC.run_main (F := Bits) m ρ)

theorem kernelIdeal_frame : Cert.quiescent_KernelIdeal (hKernelIdeal := Cert.KernelIdeal.Gen.facts) := fun m ρ _ =>
  (θ_run (Cert.KernelIdeal.defs (F := Ideal)) _ _).mono (fun _ h => ⟨fun d => (h.1 d).1.trans (SC.argAt_eq m d), h.2⟩) (SC.run_main (F := Ideal) m ρ)

theorem reference_frame : Cert.quiescent_ReferenceIdeal (hReferenceIdeal := Cert.ReferenceIdeal.Gen.facts) := fun m ρ _ =>
  (θ_run (Cert.ReferenceIdeal.defs (F := Ideal)) _ _).mono (fun _ h => ⟨fun d => (h.1 d).2, h.2⟩) (Ref.run (F := Ideal) m ρ)

/-- Both results are the kernel's gathered array. -/
theorem same_result : Cert.algebraic_KernelIdeal_ReferenceIdeal (hKernelIdeal := Cert.KernelIdeal.Gen.facts)
    (hReferenceIdeal := Cert.ReferenceIdeal.Gen.facts) := fun m ρ m' ρ' _ harg =>
  ⟨fun d => SC.newAt m d,
    (θ_run (Cert.KernelIdeal.defs (F := Ideal)) _ _).mono (fun _ h d => ⟨(h.1 d).2, (h.1 d).1.trans (SC.argAt_eq m d)⟩) (SC.run_main (F := Ideal) m ρ),
    (θ_run (Cert.ReferenceIdeal.defs (F := Ideal)) _ _).mono (fun _ h d =>
      ⟨(h.1 d).1.trans (Equal.gathered_eq (F := Ideal) (StableHlo.launchContents m d) (StableHlo.launchContents m' d) (harg d).symm), (h.1 d).2⟩)
      (Ref.run (F := Ideal) m' ρ')⟩

theorem claim : Cert.Claim := ⟨Cert.Kernel.Gen.facts, Cert.KernelIdeal.Gen.facts, Cert.ReferenceIdeal.Gen.facts,
  kernel_frame, kernelIdeal_frame, reference_frame, trivial, same_result⟩

end Cert.Proof

end
